-- ==== Defs.lean ====
def Pre_Natten [hPre_na_finite : Cert.Pre_na_finite.Facts] (m : (ℓ : Loc Cert.Natten.nD Cert.Natten.τ Cert.Natten.sig) → Buf (Elt Bits) ℓ) : Prop :=
  ∀ c : Dev Cert.Natten.nD,
    (Cert.Pre_na_finite.fn (F := Bits) (m ((c.tc : Thread Cert.Natten.nD Cert.Natten.τ).loc Cert.Natten.main_arg0)) (m ((c.tc : Thread Cert.Natten.nD Cert.Natten.τ).loc Cert.Natten.main_arg1)) (m ((c.tc : Thread Cert.Natten.nD Cert.Natten.τ).loc Cert.Natten.main_arg2)) (m ((c.tc : Thread Cert.Natten.nD Cert.Natten.τ).loc Cert.Natten.main_arg3)) (m ((c.tc : Thread Cert.Natten.nD Cert.Natten.τ).loc Cert.Natten.main_arg4))) = (fun _ => 1#1)

def Pre_Natten_none (m : (ℓ : Loc Cert.Natten.nD Cert.Natten.τ Cert.Natten.sig) → Buf (Elt Bits) ℓ) : Prop :=
  True

def Pre_NattenIdeal [hPre_na_finite : Cert.Pre_na_finite.Facts] (m : (ℓ : Loc Cert.NattenIdeal.nD Cert.NattenIdeal.τ Cert.NattenIdeal.sig) → Buf (Elt Ideal) ℓ) : Prop :=
  ∀ c : Dev Cert.NattenIdeal.nD,
    (Cert.Pre_na_finite.fn (F := Ideal) (m ((c.tc : Thread Cert.NattenIdeal.nD Cert.NattenIdeal.τ).loc Cert.NattenIdeal.main_arg0)) (m ((c.tc : Thread Cert.NattenIdeal.nD Cert.NattenIdeal.τ).loc Cert.NattenIdeal.main_arg1)) (m ((c.tc : Thread Cert.NattenIdeal.nD Cert.NattenIdeal.τ).loc Cert.NattenIdeal.main_arg2)) (m ((c.tc : Thread Cert.NattenIdeal.nD Cert.NattenIdeal.τ).loc Cert.NattenIdeal.main_arg3)) (m ((c.tc : Thread Cert.NattenIdeal.nD Cert.NattenIdeal.τ).loc Cert.NattenIdeal.main_arg4))) = (fun _ => 1#1)

def Pre_NattenIdeal_none (m : (ℓ : Loc Cert.NattenIdeal.nD Cert.NattenIdeal.τ Cert.NattenIdeal.sig) → Buf (Elt Ideal) ℓ) : Prop :=
  True

def Pre_RefNattenIdeal [hPre_na_finite : Cert.Pre_na_finite.Facts] (m : (ℓ : Loc Cert.RefNattenIdeal.nD Cert.RefNattenIdeal.τ Cert.RefNattenIdeal.sig) → Buf (Elt Ideal) ℓ) : Prop :=
  ∀ c : Dev Cert.RefNattenIdeal.nD,
    (Cert.Pre_na_finite.fn (F := Ideal) (m ((c.tc : Thread Cert.RefNattenIdeal.nD Cert.RefNattenIdeal.τ).loc Cert.RefNattenIdeal.main_arg0)) (m ((c.tc : Thread Cert.RefNattenIdeal.nD Cert.RefNattenIdeal.τ).loc Cert.RefNattenIdeal.main_arg1)) (m ((c.tc : Thread Cert.RefNattenIdeal.nD Cert.RefNattenIdeal.τ).loc Cert.RefNattenIdeal.main_arg2)) (m ((c.tc : Thread Cert.RefNattenIdeal.nD Cert.RefNattenIdeal.τ).loc Cert.RefNattenIdeal.main_arg3)) (m ((c.tc : Thread Cert.RefNattenIdeal.nD Cert.RefNattenIdeal.τ).loc Cert.RefNattenIdeal.main_arg4))) = (fun _ => 1#1)

def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_RefOutFfnIdeal (m : (ℓ : Loc Cert.RefOutFfnIdeal.nD Cert.RefOutFfnIdeal.τ Cert.RefOutFfnIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def quiescent_Natten [hNatten : Cert.Natten.Facts] [hPre_na_finite : Cert.Pre_na_finite.Facts] : Prop :=
  ∀ (m : (ℓ : Loc Cert.Natten.nD Cert.Natten.τ Cert.Natten.sig) → Buf (Elt Bits) ℓ) (g : Dev Cert.Natten.nD → PrngReg), Pre_Natten m →
    θ_run (Cert.Natten.defs (F := Bits)) (onTc (τ := Cert.Natten.τ) (Cert.Natten.main (F := Bits))) ⟨m, fun _ => 0, g⟩ (fun r => (∀ c : Dev Cert.Natten.nD,
      r.2.mem ((c.tc : Thread Cert.Natten.nD Cert.Natten.τ).loc Cert.Natten.main_arg0) = m ((c.tc : Thread Cert.Natten.nD Cert.Natten.τ).loc Cert.Natten.main_arg0)
      ∧ r.2.mem ((c.tc : Thread Cert.Natten.nD Cert.Natten.τ).loc Cert.Natten.main_arg1) = m ((c.tc : Thread Cert.Natten.nD Cert.Natten.τ).loc Cert.Natten.main_arg1)
      ∧ r.2.mem ((c.tc : Thread Cert.Natten.nD Cert.Natten.τ).loc Cert.Natten.main_arg2) = m ((c.tc : Thread Cert.Natten.nD Cert.Natten.τ).loc Cert.Natten.main_arg2)
      ∧ r.2.mem ((c.tc : Thread Cert.Natten.nD Cert.Natten.τ).loc Cert.Natten.main_arg3) = m ((c.tc : Thread Cert.Natten.nD Cert.Natten.τ).loc Cert.Natten.main_arg3)
      ∧ r.2.mem ((c.tc : Thread Cert.Natten.nD Cert.Natten.τ).loc Cert.Natten.main_arg4) = m ((c.tc : Thread Cert.Natten.nD Cert.Natten.τ).loc Cert.Natten.main_arg4))
      ∧ r.2.sem = fun _ => 0)

def quiescent_Natten_pre_none [hNatten : Cert.Natten.Facts] : Prop :=
  ∀ (m : (ℓ : Loc Cert.Natten.nD Cert.Natten.τ Cert.Natten.sig) → Buf (Elt Bits) ℓ) (g : Dev Cert.Natten.nD → PrngReg), Pre_Natten_none m →
    θ_run (Cert.Natten.defs (F := Bits)) (onTc (τ := Cert.Natten.τ) (Cert.Natten.main (F := Bits))) ⟨m, fun _ => 0, g⟩ (fun r => (∀ c : Dev Cert.Natten.nD,
      r.2.mem ((c.tc : Thread Cert.Natten.nD Cert.Natten.τ).loc Cert.Natten.main_arg0) = m ((c.tc : Thread Cert.Natten.nD Cert.Natten.τ).loc Cert.Natten.main_arg0)
      ∧ r.2.mem ((c.tc : Thread Cert.Natten.nD Cert.Natten.τ).loc Cert.Natten.main_arg1) = m ((c.tc : Thread Cert.Natten.nD Cert.Natten.τ).loc Cert.Natten.main_arg1)
      ∧ r.2.mem ((c.tc : Thread Cert.Natten.nD Cert.Natten.τ).loc Cert.Natten.main_arg2) = m ((c.tc : Thread Cert.Natten.nD Cert.Natten.τ).loc Cert.Natten.main_arg2)
      ∧ r.2.mem ((c.tc : Thread Cert.Natten.nD Cert.Natten.τ).loc Cert.Natten.main_arg3) = m ((c.tc : Thread Cert.Natten.nD Cert.Natten.τ).loc Cert.Natten.main_arg3)
      ∧ r.2.mem ((c.tc : Thread Cert.Natten.nD Cert.Natten.τ).loc Cert.Natten.main_arg4) = m ((c.tc : Thread Cert.Natten.nD Cert.Natten.τ).loc Cert.Natten.main_arg4))
      ∧ r.2.sem = fun _ => 0)

def quiescent_NattenIdeal [hNattenIdeal : Cert.NattenIdeal.Facts] [hPre_na_finite : Cert.Pre_na_finite.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
      ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2)
      ∧ r.2.mem ((c.tc : Thread Cert.NattenIdeal.nD Cert.NattenIdeal.τ).loc Cert.NattenIdeal.main_arg3) = m ((c.tc : Thread Cert.NattenIdeal.nD Cert.NattenIdeal.τ).loc Cert.NattenIdeal.main_arg3)
      ∧ r.2.mem ((c.tc : Thread Cert.NattenIdeal.nD Cert.NattenIdeal.τ).loc Cert.NattenIdeal.main_arg4) = m ((c.tc : Thread Cert.NattenIdeal.nD Cert.NattenIdeal.τ).loc Cert.NattenIdeal.main_arg4))
      ∧ r.2.sem = fun _ => 0)

def quiescent_NattenIdeal_pre_none [hNattenIdeal : Cert.NattenIdeal.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal_none m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
      ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2)
      ∧ r.2.mem ((c.tc : Thread Cert.NattenIdeal.nD Cert.NattenIdeal.τ).loc Cert.NattenIdeal.main_arg3) = m ((c.tc : Thread Cert.NattenIdeal.nD Cert.NattenIdeal.τ).loc Cert.NattenIdeal.main_arg3)
      ∧ r.2.mem ((c.tc : Thread Cert.NattenIdeal.nD Cert.NattenIdeal.τ).loc Cert.NattenIdeal.main_arg4) = m ((c.tc : Thread Cert.NattenIdeal.nD Cert.NattenIdeal.τ).loc Cert.NattenIdeal.main_arg4))
      ∧ r.2.sem = fun _ => 0)

def quiescent_RefNattenIdeal [hRefNattenIdeal : Cert.RefNattenIdeal.Facts] [hPre_na_finite : Cert.Pre_na_finite.Facts] : Prop :=
  ∀ (m : (ℓ : Loc Cert.RefNattenIdeal.nD Cert.RefNattenIdeal.τ Cert.RefNattenIdeal.sig) → Buf (Elt Ideal) ℓ) (g : Dev Cert.RefNattenIdeal.nD → PrngReg), Pre_RefNattenIdeal m →
    θ_run (Cert.RefNattenIdeal.defs (F := Ideal)) (onTc (τ := Cert.RefNattenIdeal.τ) (Cert.RefNattenIdeal.main (F := Ideal))) ⟨m, fun _ => 0, g⟩ (fun r => (∀ c : Dev Cert.RefNattenIdeal.nD,
      r.2.mem ((c.tc : Thread Cert.RefNattenIdeal.nD Cert.RefNattenIdeal.τ).loc Cert.RefNattenIdeal.main_arg0) = m ((c.tc : Thread Cert.RefNattenIdeal.nD Cert.RefNattenIdeal.τ).loc Cert.RefNattenIdeal.main_arg0)
      ∧ r.2.mem ((c.tc : Thread Cert.RefNattenIdeal.nD Cert.RefNattenIdeal.τ).loc Cert.RefNattenIdeal.main_arg1) = m ((c.tc : Thread Cert.RefNattenIdeal.nD Cert.RefNattenIdeal.τ).loc Cert.RefNattenIdeal.main_arg1)
      ∧ r.2.mem ((c.tc : Thread Cert.RefNattenIdeal.nD Cert.RefNattenIdeal.τ).loc Cert.RefNattenIdeal.main_arg2) = m ((c.tc : Thread Cert.RefNattenIdeal.nD Cert.RefNattenIdeal.τ).loc Cert.RefNattenIdeal.main_arg2)
      ∧ r.2.mem ((c.tc : Thread Cert.RefNattenIdeal.nD Cert.RefNattenIdeal.τ).loc Cert.RefNattenIdeal.main_arg3) = m ((c.tc : Thread Cert.RefNattenIdeal.nD Cert.RefNattenIdeal.τ).loc Cert.RefNattenIdeal.main_arg3)
      ∧ r.2.mem ((c.tc : Thread Cert.RefNattenIdeal.nD Cert.RefNattenIdeal.τ).loc Cert.RefNattenIdeal.main_arg4) = m ((c.tc : Thread Cert.RefNattenIdeal.nD Cert.RefNattenIdeal.τ).loc Cert.RefNattenIdeal.main_arg4))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7))
      ∧ r.2.sem = fun _ => 0)

def quiescent_RefOutFfnIdeal [hRefOutFfnIdeal : Cert.RefOutFfnIdeal.Facts] : Prop :=
  ∀ (m : (ℓ : Loc Cert.RefOutFfnIdeal.nD Cert.RefOutFfnIdeal.τ Cert.RefOutFfnIdeal.sig) → Buf (Elt Ideal) ℓ) (g : Dev Cert.RefOutFfnIdeal.nD → PrngReg), Pre_RefOutFfnIdeal m →
    θ_run (Cert.RefOutFfnIdeal.defs (F := Ideal)) (onTc (τ := Cert.RefOutFfnIdeal.τ) (Cert.RefOutFfnIdeal.main (F := Ideal))) ⟨m, fun _ => 0, g⟩ (fun r => (∀ c : Dev Cert.RefOutFfnIdeal.nD,
      r.2.mem ((c.tc : Thread Cert.RefOutFfnIdeal.nD Cert.RefOutFfnIdeal.τ).loc Cert.RefOutFfnIdeal.main_arg0) = m ((c.tc : Thread Cert.RefOutFfnIdeal.nD Cert.RefOutFfnIdeal.τ).loc Cert.RefOutFfnIdeal.main_arg0)
      ∧ r.2.mem ((c.tc : Thread Cert.RefOutFfnIdeal.nD Cert.RefOutFfnIdeal.τ).loc Cert.RefOutFfnIdeal.main_arg1) = m ((c.tc : Thread Cert.RefOutFfnIdeal.nD Cert.RefOutFfnIdeal.τ).loc Cert.RefOutFfnIdeal.main_arg1)
      ∧ r.2.mem ((c.tc : Thread Cert.RefOutFfnIdeal.nD Cert.RefOutFfnIdeal.τ).loc Cert.RefOutFfnIdeal.main_arg2) = m ((c.tc : Thread Cert.RefOutFfnIdeal.nD Cert.RefOutFfnIdeal.τ).loc Cert.RefOutFfnIdeal.main_arg2)
      ∧ r.2.mem ((c.tc : Thread Cert.RefOutFfnIdeal.nD Cert.RefOutFfnIdeal.τ).loc Cert.RefOutFfnIdeal.main_arg3) = m ((c.tc : Thread Cert.RefOutFfnIdeal.nD Cert.RefOutFfnIdeal.τ).loc Cert.RefOutFfnIdeal.main_arg3)
      ∧ r.2.mem ((c.tc : Thread Cert.RefOutFfnIdeal.nD Cert.RefOutFfnIdeal.τ).loc Cert.RefOutFfnIdeal.main_arg4) = m ((c.tc : Thread Cert.RefOutFfnIdeal.nD Cert.RefOutFfnIdeal.τ).loc Cert.RefOutFfnIdeal.main_arg4)
      ∧ r.2.mem ((c.tc : Thread Cert.RefOutFfnIdeal.nD Cert.RefOutFfnIdeal.τ).loc Cert.RefOutFfnIdeal.main_arg5) = m ((c.tc : Thread Cert.RefOutFfnIdeal.nD Cert.RefOutFfnIdeal.τ).loc Cert.RefOutFfnIdeal.main_arg5)
      ∧ r.2.mem ((c.tc : Thread Cert.RefOutFfnIdeal.nD Cert.RefOutFfnIdeal.τ).loc Cert.RefOutFfnIdeal.main_arg6) = m ((c.tc : Thread Cert.RefOutFfnIdeal.nD Cert.RefOutFfnIdeal.τ).loc Cert.RefOutFfnIdeal.main_arg6)
      ∧ r.2.mem ((c.tc : Thread Cert.RefOutFfnIdeal.nD Cert.RefOutFfnIdeal.τ).loc Cert.RefOutFfnIdeal.main_arg7) = m ((c.tc : Thread Cert.RefOutFfnIdeal.nD Cert.RefOutFfnIdeal.τ).loc Cert.RefOutFfnIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1)
      ∧ r.2.mem ((c.tc : Thread Cert.RefInProjIdeal.nD Cert.RefInProjIdeal.τ).loc Cert.RefInProjIdeal.main_arg2) = m ((c.tc : Thread Cert.RefInProjIdeal.nD Cert.RefInProjIdeal.τ).loc Cert.RefInProjIdeal.main_arg2)
      ∧ r.2.mem ((c.tc : Thread Cert.RefInProjIdeal.nD Cert.RefInProjIdeal.τ).loc Cert.RefInProjIdeal.main_arg3) = m ((c.tc : Thread Cert.RefInProjIdeal.nD Cert.RefInProjIdeal.τ).loc Cert.RefInProjIdeal.main_arg3))
      ∧ r.2.sem = fun _ => 0)

def preserves_Natten_NattenIdeal : Prop :=
  True

def algebraic_NattenIdeal_RefNattenIdeal [hNattenIdeal : Cert.NattenIdeal.Facts] [hRefNattenIdeal : Cert.RefNattenIdeal.Facts] [hPre_na_finite : Cert.Pre_na_finite.Facts] : Prop :=
  ∀ (m : (ℓ : Loc Cert.NattenIdeal.nD Cert.NattenIdeal.τ Cert.NattenIdeal.sig) → Buf (Elt Ideal) ℓ) (g : Dev Cert.NattenIdeal.nD → PrngReg)
    (m' : (ℓ : Loc Cert.RefNattenIdeal.nD Cert.RefNattenIdeal.τ Cert.RefNattenIdeal.sig) → Buf (Elt Ideal) ℓ) (g' : Dev Cert.RefNattenIdeal.nD → PrngReg), Pre_NattenIdeal m →
    (∀ c : Dev Cert.NattenIdeal.nD,
      m' ((c.tc : Thread Cert.RefNattenIdeal.nD Cert.RefNattenIdeal.τ).loc Cert.RefNattenIdeal.main_arg0) = m ((c.tc : Thread Cert.NattenIdeal.nD Cert.NattenIdeal.τ).loc Cert.NattenIdeal.main_arg0)
      ∧ m' ((c.tc : Thread Cert.RefNattenIdeal.nD Cert.RefNattenIdeal.τ).loc Cert.RefNattenIdeal.main_arg1) = m ((c.tc : Thread Cert.NattenIdeal.nD Cert.NattenIdeal.τ).loc Cert.NattenIdeal.main_arg1)
      ∧ m' ((c.tc : Thread Cert.RefNattenIdeal.nD Cert.RefNattenIdeal.τ).loc Cert.RefNattenIdeal.main_arg2) = m ((c.tc : Thread Cert.NattenIdeal.nD Cert.NattenIdeal.τ).loc Cert.NattenIdeal.main_arg2)
      ∧ m' ((c.tc : Thread Cert.RefNattenIdeal.nD Cert.RefNattenIdeal.τ).loc Cert.RefNattenIdeal.main_arg3) = m ((c.tc : Thread Cert.NattenIdeal.nD Cert.NattenIdeal.τ).loc Cert.NattenIdeal.main_arg3)
      ∧ m' ((c.tc : Thread Cert.RefNattenIdeal.nD Cert.RefNattenIdeal.τ).loc Cert.RefNattenIdeal.main_arg4) = m ((c.tc : Thread Cert.NattenIdeal.nD Cert.NattenIdeal.τ).loc Cert.NattenIdeal.main_arg4)) →
    ∃ (v0 : (c : Dev Cert.NattenIdeal.nD) → Buf (Elt Ideal) ((c.tc : Thread Cert.NattenIdeal.nD Cert.NattenIdeal.τ).loc Cert.NattenIdeal.main_v97)),
      θ_run (Cert.NattenIdeal.defs (F := Ideal)) (onTc (τ := Cert.NattenIdeal.τ) (Cert.NattenIdeal.main (F := Ideal))) ⟨m, fun _ => 0, g⟩ (fun r => ∀ c : Dev Cert.NattenIdeal.nD,
          r.2.mem ((c.tc : Thread Cert.NattenIdeal.nD Cert.NattenIdeal.τ).loc Cert.NattenIdeal.main_v97) = v0 c
          ∧ r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
          ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
          ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2)
          ∧ r.2.mem ((c.tc : Thread Cert.NattenIdeal.nD Cert.NattenIdeal.τ).loc Cert.NattenIdeal.main_arg3) = m ((c.tc : Thread Cert.NattenIdeal.nD Cert.NattenIdeal.τ).loc Cert.NattenIdeal.main_arg3)
          ∧ r.2.mem ((c.tc : Thread Cert.NattenIdeal.nD Cert.NattenIdeal.τ).loc Cert.NattenIdeal.main_arg4) = m ((c.tc : Thread Cert.NattenIdeal.nD Cert.NattenIdeal.τ).loc Cert.NattenIdeal.main_arg4))
      ∧ θ_run (Cert.RefNattenIdeal.defs (F := Ideal)) (onTc (τ := Cert.RefNattenIdeal.τ) (Cert.RefNattenIdeal.main (F := Ideal))) ⟨m', fun _ => 0, g'⟩ (fun r => ∀ c : Dev Cert.RefNattenIdeal.nD,
          r.2.mem ((c.tc : Thread Cert.RefNattenIdeal.nD Cert.RefNattenIdeal.τ).loc Cert.RefNattenIdeal.main_v199) = v0 c
          ∧ r.2.mem ((c.tc : Thread Cert.RefNattenIdeal.nD Cert.RefNattenIdeal.τ).loc Cert.RefNattenIdeal.main_arg0) = m' ((c.tc : Thread Cert.RefNattenIdeal.nD Cert.RefNattenIdeal.τ).loc Cert.RefNattenIdeal.main_arg0)
          ∧ r.2.mem ((c.tc : Thread Cert.RefNattenIdeal.nD Cert.RefNattenIdeal.τ).loc Cert.RefNattenIdeal.main_arg1) = m' ((c.tc : Thread Cert.RefNattenIdeal.nD Cert.RefNattenIdeal.τ).loc Cert.RefNattenIdeal.main_arg1)
          ∧ r.2.mem ((c.tc : Thread Cert.RefNattenIdeal.nD Cert.RefNattenIdeal.τ).loc Cert.RefNattenIdeal.main_arg2) = m' ((c.tc : Thread Cert.RefNattenIdeal.nD Cert.RefNattenIdeal.τ).loc Cert.RefNattenIdeal.main_arg2)
          ∧ r.2.mem ((c.tc : Thread Cert.RefNattenIdeal.nD Cert.RefNattenIdeal.τ).loc Cert.RefNattenIdeal.main_arg3) = m' ((c.tc : Thread Cert.RefNattenIdeal.nD Cert.RefNattenIdeal.τ).loc Cert.RefNattenIdeal.main_arg3)
          ∧ r.2.mem ((c.tc : Thread Cert.RefNattenIdeal.nD Cert.RefNattenIdeal.τ).loc Cert.RefNattenIdeal.main_arg4) = m' ((c.tc : Thread Cert.RefNattenIdeal.nD Cert.RefNattenIdeal.τ).loc Cert.RefNattenIdeal.main_arg4))

def preserves_OutFfn_OutFfnIdeal : Prop :=
  True

def algebraic_OutFfnIdeal_RefOutFfnIdeal [hOutFfnIdeal : Cert.OutFfnIdeal.Facts] [hRefOutFfnIdeal : Cert.RefOutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.RefOutFfnIdeal.nD Cert.RefOutFfnIdeal.τ Cert.RefOutFfnIdeal.sig) → Buf (Elt Ideal) ℓ) (g' : Dev Cert.RefOutFfnIdeal.nD → PrngReg), Pre_OutFfnIdeal m →
    (∀ c : Dev Cert.OutFfnIdeal.nD,
      m' ((c.tc : Thread Cert.RefOutFfnIdeal.nD Cert.RefOutFfnIdeal.τ).loc Cert.RefOutFfnIdeal.main_arg0) = m ((c.tc : Thread Cert.OutFfnIdeal.nD Cert.OutFfnIdeal.τ).loc Cert.OutFfnIdeal.main_arg0)
      ∧ m' ((c.tc : Thread Cert.RefOutFfnIdeal.nD Cert.RefOutFfnIdeal.τ).loc Cert.RefOutFfnIdeal.main_arg1) = m ((c.tc : Thread Cert.OutFfnIdeal.nD Cert.OutFfnIdeal.τ).loc Cert.OutFfnIdeal.main_arg1)
      ∧ m' ((c.tc : Thread Cert.RefOutFfnIdeal.nD Cert.RefOutFfnIdeal.τ).loc Cert.RefOutFfnIdeal.main_arg2) = m ((c.tc : Thread Cert.OutFfnIdeal.nD Cert.OutFfnIdeal.τ).loc Cert.OutFfnIdeal.main_arg2)
      ∧ m' ((c.tc : Thread Cert.RefOutFfnIdeal.nD Cert.RefOutFfnIdeal.τ).loc Cert.RefOutFfnIdeal.main_arg3) = m ((c.tc : Thread Cert.OutFfnIdeal.nD Cert.OutFfnIdeal.τ).loc Cert.OutFfnIdeal.main_arg3)
      ∧ m' ((c.tc : Thread Cert.RefOutFfnIdeal.nD Cert.RefOutFfnIdeal.τ).loc Cert.RefOutFfnIdeal.main_arg4) = m ((c.tc : Thread Cert.OutFfnIdeal.nD Cert.OutFfnIdeal.τ).loc Cert.OutFfnIdeal.main_arg4)
      ∧ m' ((c.tc : Thread Cert.RefOutFfnIdeal.nD Cert.RefOutFfnIdeal.τ).loc Cert.RefOutFfnIdeal.main_arg5) = m ((c.tc : Thread Cert.OutFfnIdeal.nD Cert.OutFfnIdeal.τ).loc Cert.OutFfnIdeal.main_arg5)
      ∧ m' ((c.tc : Thread Cert.RefOutFfnIdeal.nD Cert.RefOutFfnIdeal.τ).loc Cert.RefOutFfnIdeal.main_arg6) = m ((c.tc : Thread Cert.OutFfnIdeal.nD Cert.OutFfnIdeal.τ).loc Cert.OutFfnIdeal.main_arg6)
      ∧ m' ((c.tc : Thread Cert.RefOutFfnIdeal.nD Cert.RefOutFfnIdeal.τ).loc Cert.RefOutFfnIdeal.main_arg7) = m ((c.tc : Thread Cert.OutFfnIdeal.nD Cert.OutFfnIdeal.τ).loc Cert.OutFfnIdeal.main_arg7)) →
    ∃ (v0 : (c : Dev Cert.OutFfnIdeal.nD) → Buf (Elt Ideal) ((c.tc : Thread Cert.OutFfnIdeal.nD Cert.OutFfnIdeal.τ).loc Cert.OutFfnIdeal.main_v9)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v9) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7))
      ∧ θ_run (Cert.RefOutFfnIdeal.defs (F := Ideal)) (onTc (τ := Cert.RefOutFfnIdeal.τ) (Cert.RefOutFfnIdeal.main (F := Ideal))) ⟨m', fun _ => 0, g'⟩ (fun r => ∀ c : Dev Cert.RefOutFfnIdeal.nD,
          r.2.mem ((c.tc : Thread Cert.RefOutFfnIdeal.nD Cert.RefOutFfnIdeal.τ).loc Cert.RefOutFfnIdeal.main_v45) = v0 c
          ∧ r.2.mem ((c.tc : Thread Cert.RefOutFfnIdeal.nD Cert.RefOutFfnIdeal.τ).loc Cert.RefOutFfnIdeal.main_arg0) = m' ((c.tc : Thread Cert.RefOutFfnIdeal.nD Cert.RefOutFfnIdeal.τ).loc Cert.RefOutFfnIdeal.main_arg0)
          ∧ r.2.mem ((c.tc : Thread Cert.RefOutFfnIdeal.nD Cert.RefOutFfnIdeal.τ).loc Cert.RefOutFfnIdeal.main_arg1) = m' ((c.tc : Thread Cert.RefOutFfnIdeal.nD Cert.RefOutFfnIdeal.τ).loc Cert.RefOutFfnIdeal.main_arg1)
          ∧ r.2.mem ((c.tc : Thread Cert.RefOutFfnIdeal.nD Cert.RefOutFfnIdeal.τ).loc Cert.RefOutFfnIdeal.main_arg2) = m' ((c.tc : Thread Cert.RefOutFfnIdeal.nD Cert.RefOutFfnIdeal.τ).loc Cert.RefOutFfnIdeal.main_arg2)
          ∧ r.2.mem ((c.tc : Thread Cert.RefOutFfnIdeal.nD Cert.RefOutFfnIdeal.τ).loc Cert.RefOutFfnIdeal.main_arg3) = m' ((c.tc : Thread Cert.RefOutFfnIdeal.nD Cert.RefOutFfnIdeal.τ).loc Cert.RefOutFfnIdeal.main_arg3)
          ∧ r.2.mem ((c.tc : Thread Cert.RefOutFfnIdeal.nD Cert.RefOutFfnIdeal.τ).loc Cert.RefOutFfnIdeal.main_arg4) = m' ((c.tc : Thread Cert.RefOutFfnIdeal.nD Cert.RefOutFfnIdeal.τ).loc Cert.RefOutFfnIdeal.main_arg4)
          ∧ r.2.mem ((c.tc : Thread Cert.RefOutFfnIdeal.nD Cert.RefOutFfnIdeal.τ).loc Cert.RefOutFfnIdeal.main_arg5) = m' ((c.tc : Thread Cert.RefOutFfnIdeal.nD Cert.RefOutFfnIdeal.τ).loc Cert.RefOutFfnIdeal.main_arg5)
          ∧ r.2.mem ((c.tc : Thread Cert.RefOutFfnIdeal.nD Cert.RefOutFfnIdeal.τ).loc Cert.RefOutFfnIdeal.main_arg6) = m' ((c.tc : Thread Cert.RefOutFfnIdeal.nD Cert.RefOutFfnIdeal.τ).loc Cert.RefOutFfnIdeal.main_arg6)
          ∧ r.2.mem ((c.tc : Thread Cert.RefOutFfnIdeal.nD Cert.RefOutFfnIdeal.τ).loc Cert.RefOutFfnIdeal.main_arg7) = m' ((c.tc : Thread Cert.RefOutFfnIdeal.nD Cert.RefOutFfnIdeal.τ).loc Cert.RefOutFfnIdeal.main_arg7))

def preserves_InProj_InProjIdeal : Prop :=
  True

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)
      ∧ m' ((c.tc : Thread Cert.RefInProjIdeal.nD Cert.RefInProjIdeal.τ).loc Cert.RefInProjIdeal.main_arg2) = m ((c.tc : Thread Cert.InProjIdeal.nD Cert.InProjIdeal.τ).loc Cert.InProjIdeal.main_arg2)
      ∧ m' ((c.tc : Thread Cert.RefInProjIdeal.nD Cert.RefInProjIdeal.τ).loc Cert.RefInProjIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v14_0)) (v1 : (c : Dev Cert.InProjIdeal.nD) → Buf (Elt Ideal) ((c.tc : Thread Cert.InProjIdeal.nD Cert.InProjIdeal.τ).loc Cert.InProjIdeal.main_v14_1)) (v2 : (c : Dev Cert.InProjIdeal.nD) → Buf (Elt Ideal) ((c.tc : Thread Cert.InProjIdeal.nD Cert.InProjIdeal.τ).loc Cert.InProjIdeal.main_v14_2)) (v3 : (c : Dev Cert.InProjIdeal.nD) → Buf (Elt Ideal) ((c.tc : Thread Cert.InProjIdeal.nD Cert.InProjIdeal.τ).loc Cert.InProjIdeal.main_v14_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14_0) = v0 c
          ∧ r.2.mem ((c.tc : Thread Cert.InProjIdeal.nD Cert.InProjIdeal.τ).loc Cert.InProjIdeal.main_v14_1) = v1 c
          ∧ r.2.mem ((c.tc : Thread Cert.InProjIdeal.nD Cert.InProjIdeal.τ).loc Cert.InProjIdeal.main_v14_2) = v2 c
          ∧ r.2.mem ((c.tc : Thread Cert.InProjIdeal.nD Cert.InProjIdeal.τ).loc Cert.InProjIdeal.main_v14_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v34) = v0 c
          ∧ r.2.mem ((c.tc : Thread Cert.RefInProjIdeal.nD Cert.RefInProjIdeal.τ).loc Cert.RefInProjIdeal.main_v35) = v1 c
          ∧ r.2.mem ((c.tc : Thread Cert.RefInProjIdeal.nD Cert.RefInProjIdeal.τ).loc Cert.RefInProjIdeal.main_v36) = v2 c
          ∧ r.2.mem ((c.tc : Thread Cert.RefInProjIdeal.nD Cert.RefInProjIdeal.τ).loc Cert.RefInProjIdeal.main_v33) = v3 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1)
          ∧ r.2.mem ((c.tc : Thread Cert.RefInProjIdeal.nD Cert.RefInProjIdeal.τ).loc Cert.RefInProjIdeal.main_arg2) = m' ((c.tc : Thread Cert.RefInProjIdeal.nD Cert.RefInProjIdeal.τ).loc Cert.RefInProjIdeal.main_arg2)
          ∧ r.2.mem ((c.tc : Thread Cert.RefInProjIdeal.nD Cert.RefInProjIdeal.τ).loc Cert.RefInProjIdeal.main_arg3) = m' ((c.tc : Thread Cert.RefInProjIdeal.nD Cert.RefInProjIdeal.τ).loc Cert.RefInProjIdeal.main_arg3))

def Claim : Prop :=
  ∃ (hNatten : Cert.Natten.Facts) (hNattenIdeal : Cert.NattenIdeal.Facts) (hRefNattenIdeal : Cert.RefNattenIdeal.Facts) (hOutFfn : Cert.OutFfn.Facts) (hOutFfnIdeal : Cert.OutFfnIdeal.Facts) (hRefOutFfnIdeal : Cert.RefOutFfnIdeal.Facts) (hInProj : Cert.InProj.Facts) (hInProjIdeal : Cert.InProjIdeal.Facts) (hRefInProjIdeal : Cert.RefInProjIdeal.Facts) (hPre_na_finite : Cert.Pre_na_finite.Facts),
    quiescent_Natten (hNatten := hNatten) (hPre_na_finite := hPre_na_finite)
    ∧ quiescent_Natten_pre_none (hNatten := hNatten)
    ∧ quiescent_NattenIdeal (hNattenIdeal := hNattenIdeal) (hPre_na_finite := hPre_na_finite)
    ∧ quiescent_NattenIdeal_pre_none (hNattenIdeal := hNattenIdeal)
    ∧ quiescent_RefNattenIdeal (hRefNattenIdeal := hRefNattenIdeal) (hPre_na_finite := hPre_na_finite)
    ∧ quiescent_OutFfn (hOutFfn := hOutFfn)
    ∧ quiescent_OutFfnIdeal (hOutFfnIdeal := hOutFfnIdeal)
    ∧ quiescent_RefOutFfnIdeal (hRefOutFfnIdeal := hRefOutFfnIdeal)
    ∧ quiescent_InProj (hInProj := hInProj)
    ∧ quiescent_InProjIdeal (hInProjIdeal := hInProjIdeal)
    ∧ quiescent_RefInProjIdeal (hRefInProjIdeal := hRefInProjIdeal)
    ∧ preserves_Natten_NattenIdeal
    ∧ algebraic_NattenIdeal_RefNattenIdeal (hNattenIdeal := hNattenIdeal) (hRefNattenIdeal := hRefNattenIdeal) (hPre_na_finite := hPre_na_finite)
    ∧ preserves_OutFfn_OutFfnIdeal
    ∧ algebraic_OutFfnIdeal_RefOutFfnIdeal (hOutFfnIdeal := hOutFfnIdeal) (hRefOutFfnIdeal := hRefOutFfnIdeal)
    ∧ preserves_InProj_InProjIdeal
    ∧ algebraic_InProjIdeal_RefInProjIdeal (hInProjIdeal := hInProjIdeal) (hRefInProjIdeal := hRefInProjIdeal)
-- ==== Pre_na_finite.lean ====
abbrev S16x2048x1536 : Shape := ⟨3, ![16, 2048, 1536]⟩
abbrev S16x256x1536 : Shape := ⟨3, ![16, 256, 1536]⟩
abbrev S1x64 : Shape := ⟨2, ![1, 64]⟩
abbrev S1x8x15x31 : Shape := ⟨4, ![1, 8, 15, 31]⟩
abbrev S_ : Shape := ⟨0, ![]⟩

class Facts : Prop where
  bitsLt_bf16_f32 : FTy.bits .bf16 < FTy.bits .f32
  bcast_S_S16x2048x1536 : S_.BroadcastsInDim S16x2048x1536 (![] : Fin 0 → Fin S16x2048x1536.rank)
  reducesTo_S16x2048x1536_S_d0_1_2 : S16x2048x1536.ReducesTo [0, 1, 2] S_
  h_S_ : 0 < S_.numel
  bcast_S_S16x256x1536 : S_.BroadcastsInDim S16x256x1536 (![] : Fin 0 → Fin S16x256x1536.rank)
  reducesTo_S16x256x1536_S_d0_1_2 : S16x256x1536.ReducesTo [0, 1, 2] S_
  bcast_S_S1x64 : S_.BroadcastsInDim S1x64 (![] : Fin 0 → Fin S1x64.rank)
  reducesTo_S1x64_S_d0_1 : S1x64.ReducesTo [0, 1] S_
  bcast_S_S1x8x15x31 : S_.BroadcastsInDim S1x8x15x31 (![] : Fin 0 → Fin S1x8x15x31.rank)
  reducesTo_S1x8x15x31_S_d0_1_2_3 : S1x8x15x31.ReducesTo [0, 1, 2, 3] S_

variable [Facts]

def fn_part1 {F : FTy → Type} [FloatOps F] (main_arg4 : FVec F S1x8x15x31 .f32) (main_v15 : IVec S_ 1) (main_v16 : FVec F S1x64 .f32) (main_cst_4 : FVec F S_ .f32) : IVec S_ 1 :=
  let main_v17 : FVec F S1x64 .f32 := broadcastInDim S1x64 ![] bcast_S_S1x64 main_cst_4
  let main_v18 : IVec S1x64 1 := cmpf .olt main_v16 main_v17
  let main_c_5 : IVec S_ 1 := constantI S_ 1 1#1
  let main_v19 : IVec S_ 1 := (fun x v => Host.reduce IntOp.andi x v reducesTo_S1x64_S_d0_1 h_S_) main_v18 main_c_5
  let main_v20 : IVec S_ 1 := andi main_v15 main_v19
  let main_v21 : FVec F S1x8x15x31 .f32 := Host.absf main_arg4
  let main_cst_6 : FVec F S_ .f32 := constant S_ .f32 0x7F800000#32
  let main_v22 : FVec F S1x8x15x31 .f32 := broadcastInDim S1x8x15x31 ![] bcast_S_S1x8x15x31 main_cst_6
  let main_v23 : IVec S1x8x15x31 1 := cmpf .olt main_v21 main_v22
  let main_c_7 : IVec S_ 1 := constantI S_ 1 1#1
  let main_v24 : IVec S_ 1 := (fun x v => Host.reduce IntOp.andi x v reducesTo_S1x8x15x31_S_d0_1_2_3 h_S_) main_v23 main_c_7
  let main_v25 : IVec S_ 1 := andi main_v20 main_v24
  main_v25

def fn {F : FTy → Type} [FloatOps F] (main_arg0 : FVec F S16x2048x1536 .bf16) (main_arg1 : FVec F S16x256x1536 .bf16) (main_arg2 : FVec F S1x64 .f32) (main_arg3 : FVec F S1x64 .f32) (main_arg4 : FVec F S1x8x15x31 .f32) : IVec S_ 1 :=
  let main_v0 : FVec F S16x2048x1536 .f32 := (extf .f32 · bitsLt_bf16_f32) main_arg0
  let main_v1 : FVec F S16x2048x1536 .f32 := Host.absf main_v0
  let main_cst : FVec F S_ .f32 := constant S_ .f32 0x7F800000#32
  let main_v2 : FVec F S16x2048x1536 .f32 := broadcastInDim S16x2048x1536 ![] bcast_S_S16x2048x1536 main_cst
  let main_v3 : IVec S16x2048x1536 1 := cmpf .olt main_v1 main_v2
  let main_c : IVec S_ 1 := constantI S_ 1 1#1
  let main_v4 : IVec S_ 1 := (fun x v => Host.reduce IntOp.andi x v reducesTo_S16x2048x1536_S_d0_1_2 h_S_) main_v3 main_c
  let main_v5 : FVec F S16x256x1536 .f32 := (extf .f32 · bitsLt_bf16_f32) main_arg1
  let main_v6 : FVec F S16x256x1536 .f32 := Host.absf main_v5
  let main_cst_0 : FVec F S_ .f32 := constant S_ .f32 0x7F800000#32
  let main_v7 : FVec F S16x256x1536 .f32 := broadcastInDim S16x256x1536 ![] bcast_S_S16x256x1536 main_cst_0
  let main_v8 : IVec S16x256x1536 1 := cmpf .olt main_v6 main_v7
  let main_c_1 : IVec S_ 1 := constantI S_ 1 1#1
  let main_v9 : IVec S_ 1 := (fun x v => Host.reduce IntOp.andi x v reducesTo_S16x256x1536_S_d0_1_2 h_S_) main_v8 main_c_1
  let main_v10 : IVec S_ 1 := andi main_v4 main_v9
  let main_v11 : FVec F S1x64 .f32 := Host.absf main_arg2
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_c_3 : IVec S_ 1 := constantI S_ 1 1#1
  let main_v14 : IVec S_ 1 := (fun x v => Host.reduce IntOp.andi x v reducesTo_S1x64_S_d0_1 h_S_) main_v13 main_c_3
  let main_v15 : IVec S_ 1 := andi main_v10 main_v14
  let main_v16 : FVec F S1x64 .f32 := Host.absf main_arg3
  let main_cst_4 : FVec F S_ .f32 := constant S_ .f32 0x7F800000#32
  fn_part1 (F := F) main_arg4 main_v15 main_v16 main_cst_4
-- ==== Natten.lean ====
abbrev S16x2048x1536 : Shape := ⟨3, ![16, 2048, 1536]⟩
abbrev S16x256x1536 : Shape := ⟨3, ![16, 256, 1536]⟩
abbrev S1x64 : Shape := ⟨2, ![1, 64]⟩
abbrev S1x8x15x31 : Shape := ⟨4, ![1, 8, 15, 31]⟩
abbrev S64x64 : Shape := ⟨2, ![64, 64]⟩
abbrev S8 : Shape := ⟨1, ![8]⟩
abbrev S1x64x1x64 : Shape := ⟨4, ![1, 64, 1, 64]⟩
abbrev S8x15x31 : Shape := ⟨3, ![8, 15, 31]⟩
abbrev S_ : Shape := ⟨0, ![]⟩
abbrev S64x64x1 : Shape := ⟨3, ![64, 64, 1]⟩
abbrev S8x15x64x64 : Shape := ⟨4, ![8, 15, 64, 64]⟩
abbrev S8x1 : Shape := ⟨2, ![8, 1]⟩
abbrev S8x8x64x64 : Shape := ⟨4, ![8, 8, 64, 64]⟩
abbrev S8x64x8x64 : Shape := ⟨4, ![8, 64, 8, 64]⟩
abbrev S4x128x512 : Shape := ⟨3, ![4, 128, 512]⟩
abbrev S1x4x128x512 : Shape := ⟨4, ![1, 4, 128, 512]⟩
abbrev S8x4x128x512 : Shape := ⟨4, ![8, 4, 128, 512]⟩
abbrev S64 : Shape := ⟨1, ![64]⟩
abbrev S8x64 : Shape := ⟨2, ![8, 64]⟩
abbrev S512 : Shape := ⟨1, ![512]⟩
abbrev S1x512 : Shape := ⟨2, ![1, 512]⟩
abbrev S16x2048x512 : Shape := ⟨3, ![16, 2048, 512]⟩
abbrev S1x2048x512 : Shape := ⟨3, ![1, 2048, 512]⟩
abbrev S1x256x512 : Shape := ⟨3, ![1, 256, 512]⟩
abbrev S2048x512 : Shape := ⟨2, ![2048, 512]⟩
abbrev S256x512 : Shape := ⟨2, ![256, 512]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S64x128 : Shape := ⟨2, ![64, 128]⟩
abbrev S1x64x512 : Shape := ⟨3, ![1, 64, 512]⟩
abbrev S64x512 : Shape := ⟨2, ![64, 512]⟩
abbrev S64x1 : Shape := ⟨2, ![64, 1]⟩
abbrev S128x128 : Shape := ⟨2, ![128, 128]⟩
abbrev S512x128 : Shape := ⟨2, ![512, 128]⟩
abbrev S128x512 : Shape := ⟨2, ![128, 512]⟩
abbrev S1x1x128x512 : Shape := ⟨4, ![1, 1, 128, 512]⟩
abbrev S128x256 : Shape := ⟨2, ![128, 256]⟩
abbrev S128 : Shape := ⟨1, ![128]⟩
abbrev S128x1 : Shape := ⟨2, ![128, 1]⟩
abbrev S1x512x128 : Shape := ⟨3, ![1, 512, 128]⟩
abbrev S1x256x128 : Shape := ⟨3, ![1, 256, 128]⟩
abbrev S1x64x128 : Shape := ⟨3, ![1, 64, 128]⟩

abbrev nBuf : Space → Nat
  | .hbm => 170
  | .vmem => 17
  | .smem => 0
  | _ => 0

abbrev hbmTy0_0 (i : Nat) : BufTy := match i % 128 with
  | 0 => ⟨S16x2048x1536, .bf16⟩
  | 1 => ⟨S16x256x1536, .bf16⟩
  | 2 => ⟨S1x64, .f32⟩
  | 3 => ⟨S1x64, .f32⟩
  | 4 => ⟨S1x8x15x31, .f32⟩
  | 5 => ⟨S64x64, .i32⟩
  | 6 => ⟨S64x64, .i1⟩
  | 7 => ⟨S8, .i32⟩
  | 8 => ⟨S8, .i1⟩
  | 9 => ⟨S64x64, .i1⟩
  | 10 => ⟨S1x64x1x64, .i1⟩
  | 11 => ⟨S8, .i32⟩
  | 12 => ⟨S8, .i1⟩
  | 13 => ⟨S64x64, .i1⟩
  | 14 => ⟨S1x64x1x64, .i1⟩
  | 15 => ⟨S8, .i32⟩
  | 16 => ⟨S8, .i1⟩
  | 17 => ⟨S64x64, .i1⟩
  | 18 => ⟨S1x64x1x64, .i1⟩
  | 19 => ⟨S8, .i32⟩
  | 20 => ⟨S8, .i1⟩
  | 21 => ⟨S64x64, .i1⟩
  | 22 => ⟨S1x64x1x64, .i1⟩
  | 23 => ⟨S8, .i32⟩
  | 24 => ⟨S8, .i1⟩
  | 25 => ⟨S64x64, .i1⟩
  | 26 => ⟨S1x64x1x64, .i1⟩
  | 27 => ⟨S8, .i32⟩
  | 28 => ⟨S8, .i1⟩
  | 29 => ⟨S64x64, .i1⟩
  | 30 => ⟨S1x64x1x64, .i1⟩
  | 31 => ⟨S8, .i32⟩
  | 32 => ⟨S8, .i1⟩
  | 33 => ⟨S64x64, .i1⟩
  | 34 => ⟨S1x64x1x64, .i1⟩
  | 35 => ⟨S8, .i32⟩
  | 36 => ⟨S8, .i1⟩
  | 37 => ⟨S64x64, .i1⟩
  | 38 => ⟨S1x64x1x64, .i1⟩
  | 39 => ⟨S8x15x31, .f32⟩
  | 40 => ⟨S_, .i32⟩
  | 41 => ⟨S64x64, .i32⟩
  | 42 => ⟨S64x64, .i32⟩
  | 43 => ⟨S64x64, .i32⟩
  | 44 => ⟨S64x64x1, .i32⟩
  | 45 => ⟨S8x15x64x64, .f32⟩
  | 46 => ⟨S_, .i32⟩
  | 47 => ⟨S8, .i32⟩
  | 48 => ⟨S8, .i32⟩
  | 49 => ⟨S8, .i32⟩
  | 50 => ⟨S8x1, .i32⟩
  | 51 => ⟨S8x8x64x64, .f32⟩
  | 52 => ⟨S8x64x8x64, .f32⟩
  | 53 => ⟨S_, .f32⟩
  | 54 => ⟨S_, .f32⟩
  | 55 => ⟨S8x64x8x64, .i1⟩
  | 56 => ⟨S8x64x8x64, .f32⟩
  | 57 => ⟨S8x64x8x64, .f32⟩
  | 58 => ⟨S4x128x512, .f32⟩
  | 59 => ⟨S_, .i32⟩
  | 60 => ⟨S8, .i32⟩
  | 61 => ⟨S8, .i32⟩
  | 62 => ⟨S8, .i32⟩
  | 63 => ⟨S8x1, .i32⟩
  | 64 => ⟨S8x8x64x64, .f32⟩
  | 65 => ⟨S8x64x8x64, .f32⟩
  | 66 => ⟨S_, .f32⟩
  | 67 => ⟨S_, .f32⟩
  | 68 => ⟨S8x64x8x64, .i1⟩
  | 69 => ⟨S8x64x8x64, .f32⟩
  | 70 => ⟨S8x64x8x64, .f32⟩
  | 71 => ⟨S4x128x512, .f32⟩
  | 72 => ⟨S_, .i32⟩
  | 73 => ⟨S8, .i32⟩
  | 74 => ⟨S8, .i32⟩
  | 75 => ⟨S8, .i32⟩
  | 76 => ⟨S8x1, .i32⟩
  | 77 => ⟨S8x8x64x64, .f32⟩
  | 78 => ⟨S8x64x8x64, .f32⟩
  | 79 => ⟨S_, .f32⟩
  | 80 => ⟨S_, .f32⟩
  | 81 => ⟨S8x64x8x64, .i1⟩
  | 82 => ⟨S8x64x8x64, .f32⟩
  | 83 => ⟨S8x64x8x64, .f32⟩
  | 84 => ⟨S4x128x512, .f32⟩
  | 85 => ⟨S_, .i32⟩
  | 86 => ⟨S8, .i32⟩
  | 87 => ⟨S8, .i32⟩
  | 88 => ⟨S8, .i32⟩
  | 89 => ⟨S8x1, .i32⟩
  | 90 => ⟨S8x8x64x64, .f32⟩
  | 91 => ⟨S8x64x8x64, .f32⟩
  | 92 => ⟨S_, .f32⟩
  | 93 => ⟨S_, .f32⟩
  | 94 => ⟨S8x64x8x64, .i1⟩
  | 95 => ⟨S8x64x8x64, .f32⟩
  | 96 => ⟨S8x64x8x64, .f32⟩
  | 97 => ⟨S4x128x512, .f32⟩
  | 98 => ⟨S_, .i32⟩
  | 99 => ⟨S8, .i32⟩
  | 100 => ⟨S8, .i32⟩
  | 101 => ⟨S8, .i32⟩
  | 102 => ⟨S8x1, .i32⟩
  | 103 => ⟨S8x8x64x64, .f32⟩
  | 104 => ⟨S8x64x8x64, .f32⟩
  | 105 => ⟨S_, .f32⟩
  | 106 => ⟨S_, .f32⟩
  | 107 => ⟨S8x64x8x64, .i1⟩
  | 108 => ⟨S8x64x8x64, .f32⟩
  | 109 => ⟨S8x64x8x64, .f32⟩
  | 110 => ⟨S4x128x512, .f32⟩
  | 111 => ⟨S_, .i32⟩
  | 112 => ⟨S8, .i32⟩
  | 113 => ⟨S8, .i32⟩
  | 114 => ⟨S8, .i32⟩
  | 115 => ⟨S8x1, .i32⟩
  | 116 => ⟨S8x8x64x64, .f32⟩
  | 117 => ⟨S8x64x8x64, .f32⟩
  | 118 => ⟨S_, .f32⟩
  | 119 => ⟨S_, .f32⟩
  | 120 => ⟨S8x64x8x64, .i1⟩
  | 121 => ⟨S8x64x8x64, .f32⟩
  | 122 => ⟨S8x64x8x64, .f32⟩
  | 123 => ⟨S4x128x512, .f32⟩
  | 124 => ⟨S_, .i32⟩
  | 125 => ⟨S8, .i32⟩
  | 126 => ⟨S8, .i32⟩
  | 127 => ⟨S8, .i32⟩
  | _ => ⟨S16x2048x1536, .bf16⟩

abbrev hbmTy0_1 (i : Nat) : BufTy := match i % 128 with
  | 0 => ⟨S8x1, .i32⟩
  | 1 => ⟨S8x8x64x64, .f32⟩
  | 2 => ⟨S8x64x8x64, .f32⟩
  | 3 => ⟨S_, .f32⟩
  | 4 => ⟨S_, .f32⟩
  | 5 => ⟨S8x64x8x64, .i1⟩
  | 6 => ⟨S8x64x8x64, .f32⟩
  | 7 => ⟨S8x64x8x64, .f32⟩
  | 8 => ⟨S4x128x512, .f32⟩
  | 9 => ⟨S_, .i32⟩
  | 10 => ⟨S8, .i32⟩
  | 11 => ⟨S8, .i32⟩
  | 12 => ⟨S8, .i32⟩
  | 13 => ⟨S8x1, .i32⟩
  | 14 => ⟨S8x8x64x64, .f32⟩
  | 15 => ⟨S8x64x8x64, .f32⟩
  | 16 => ⟨S_, .f32⟩
  | 17 => ⟨S_, .f32⟩
  | 18 => ⟨S8x64x8x64, .i1⟩
  | 19 => ⟨S8x64x8x64, .f32⟩
  | 20 => ⟨S8x64x8x64, .f32⟩
  | 21 => ⟨S4x128x512, .f32⟩
  | 22 => ⟨S1x4x128x512, .f32⟩
  | 23 => ⟨S1x4x128x512, .f32⟩
  | 24 => ⟨S1x4x128x512, .f32⟩
  | 25 => ⟨S1x4x128x512, .f32⟩
  | 26 => ⟨S1x4x128x512, .f32⟩
  | 27 => ⟨S1x4x128x512, .f32⟩
  | 28 => ⟨S1x4x128x512, .f32⟩
  | 29 => ⟨S1x4x128x512, .f32⟩
  | 30 => ⟨S8x4x128x512, .f32⟩
  | 31 => ⟨S64, .f32⟩
  | 32 => ⟨S1x64, .f32⟩
  | 33 => ⟨S8x64, .f32⟩
  | 34 => ⟨S512, .f32⟩
  | 35 => ⟨S1x512, .f32⟩
  | 36 => ⟨S64, .f32⟩
  | 37 => ⟨S1x64, .f32⟩
  | 38 => ⟨S8x64, .f32⟩
  | 39 => ⟨S512, .f32⟩
  | 40 => ⟨S1x512, .f32⟩
  | 41 => ⟨S16x2048x512, .bf16⟩
  | _ => ⟨S16x2048x1536, .bf16⟩

abbrev hbmTy (i : Nat) : BufTy := match i / 128 with
  | 0 => hbmTy0_0 i
  | 1 => hbmTy0_1 i
  | _ => ⟨S16x2048x1536, .bf16⟩

abbrev bufTy : (tb : Table) → Fin (tcTables nBuf tb) → BufTy
  | .hbm, ⟨i, _⟩ => hbmTy i
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x512, .f32⟩
  | .local _ .vmem, ⟨11, _⟩ => ⟨S1x512, .f32⟩
  | .local _ .vmem, ⟨12, _⟩ => ⟨S8x4x128x512, .f32⟩
  | .local _ .vmem, ⟨13, _⟩ => ⟨S1x2048x512, .bf16⟩
  | .local _ .vmem, ⟨14, _⟩ => ⟨S1x2048x512, .bf16⟩
  | .local _ .vmem, ⟨15, _⟩ => ⟨S2048x512, .bf16⟩
  | .local _ .vmem, ⟨16, _⟩ => ⟨S256x512, .bf16⟩
  | _, _ => ⟨S16x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_v0 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_v1 : Ref sig .tc := ⟨.hbm, 14, rfl⟩
abbrev main_c_7 : Ref sig .tc := ⟨.hbm, 15, rfl⟩
abbrev main_c_8 : Ref sig .tc := ⟨.hbm, 16, rfl⟩
abbrev main_c_9 : Ref sig .tc := ⟨.hbm, 17, rfl⟩
abbrev main_v2 : Ref sig .tc := ⟨.hbm, 18, rfl⟩
abbrev main_c_10 : Ref sig .tc := ⟨.hbm, 19, rfl⟩
abbrev main_c_11 : Ref sig .tc := ⟨.hbm, 20, rfl⟩
abbrev main_c_12 : Ref sig .tc := ⟨.hbm, 21, rfl⟩
abbrev main_v3 : Ref sig .tc := ⟨.hbm, 22, rfl⟩
abbrev main_c_13 : Ref sig .tc := ⟨.hbm, 23, rfl⟩
abbrev main_c_14 : Ref sig .tc := ⟨.hbm, 24, rfl⟩
abbrev main_c_15 : Ref sig .tc := ⟨.hbm, 25, rfl⟩
abbrev main_v4 : Ref sig .tc := ⟨.hbm, 26, rfl⟩
abbrev main_c_16 : Ref sig .tc := ⟨.hbm, 27, rfl⟩
abbrev main_c_17 : Ref sig .tc := ⟨.hbm, 28, rfl⟩
abbrev main_c_18 : Ref sig .tc := ⟨.hbm, 29, rfl⟩
abbrev main_v5 : Ref sig .tc := ⟨.hbm, 30, rfl⟩
abbrev main_c_19 : Ref sig .tc := ⟨.hbm, 31, rfl⟩
abbrev main_c_20 : Ref sig .tc := ⟨.hbm, 32, rfl⟩
abbrev main_c_21 : Ref sig .tc := ⟨.hbm, 33, rfl⟩
abbrev main_v6 : Ref sig .tc := ⟨.hbm, 34, rfl⟩
abbrev main_c_22 : Ref sig .tc := ⟨.hbm, 35, rfl⟩
abbrev main_c_23 : Ref sig .tc := ⟨.hbm, 36, rfl⟩
abbrev main_c_24 : Ref sig .tc := ⟨.hbm, 37, rfl⟩
abbrev main_v7 : Ref sig .tc := ⟨.hbm, 38, rfl⟩
abbrev main_v8 : Ref sig .tc := ⟨.hbm, 39, rfl⟩
abbrev main_c_25 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c_26 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v20 : Ref sig .tc := ⟨.hbm, 57, rfl⟩
abbrev main_v21 : Ref sig .tc := ⟨.hbm, 58, rfl⟩
abbrev main_c_27 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_28 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v28 : Ref sig .tc := ⟨.hbm, 70, rfl⟩
abbrev main_v29 : Ref sig .tc := ⟨.hbm, 71, rfl⟩
abbrev main_c_29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_30 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v36 : Ref sig .tc := ⟨.hbm, 83, rfl⟩
abbrev main_v37 : Ref sig .tc := ⟨.hbm, 84, rfl⟩
abbrev main_c_31 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_cst_32 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v44 : Ref sig .tc := ⟨.hbm, 96, rfl⟩
abbrev main_v45 : Ref sig .tc := ⟨.hbm, 97, rfl⟩
abbrev main_c_33 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_34 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v52 : Ref sig .tc := ⟨.hbm, 109, rfl⟩
abbrev main_v53 : Ref sig .tc := ⟨.hbm, 110, rfl⟩
abbrev main_c_35 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_36 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_v60 : Ref sig .tc := ⟨.hbm, 122, rfl⟩
abbrev main_v61 : Ref sig .tc := ⟨.hbm, 123, rfl⟩
abbrev main_c_37 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_cst_38 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v68 : Ref sig .tc := ⟨.hbm, 135, rfl⟩
abbrev main_v69 : Ref sig .tc := ⟨.hbm, 136, rfl⟩
abbrev main_c_39 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_cst_40 : Ref sig .tc := ⟨.hbm, 144, rfl⟩
abbrev main_call7_v0 : Ref sig .tc := ⟨.hbm, 145, rfl⟩
abbrev main_call7_v1 : Ref sig .tc := ⟨.hbm, 146, rfl⟩
abbrev main_call7_v2 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_6 : BitVec 32 := 0#32
  let c8_i32 : BitVec 32 := 8#32
  let v23 : BitVec 32 := Scalar.addi c0_i32_6 c8_i32
  let c1_i32_7 : BitVec 32 := 1#32
  ⟨c0_i32_6, v23, c1_i32_7⟩
def k0_mult1 (k0_t1 : Fin k0_t1_loop.trips) : BitVec 32 :=
  let c0_i32_6 : BitVec 32 := 0#32
  let c1_i32_7 : BitVec 32 := 1#32
  let arg12 : BitVec 32 := Scf.iv c0_i32_6 c1_i32_7 k0_t1
  let c256_i32 : BitVec 32 := 256#32
  let v138 : BitVec 32 := Scalar.muli arg12 c256_i32
  v138
def k0_off1 (k0_t1 : Fin k0_t1_loop.trips) : Fin 3 → Nat :=
  let c0_37 : Index := 0#32
  let c0_i32_6 : BitVec 32 := 0#32
  let c1_i32_7 : BitVec 32 := 1#32
  let arg12 : BitVec 32 := Scf.iv c0_i32_6 c1_i32_7 k0_t1
  let c256_i32 : BitVec 32 := 256#32
  let v138 : BitVec 32 := Scalar.muli arg12 c256_i32
  let v139 : BitVec 32 := v138
  let v140 : Index := Scalar.indexCast v139
  let c0_38 : Index := 0#32
  ![0, v140.toNat, 0]
def k0_off2 (k0_t1 : Fin k0_t1_loop.trips) : Fin 2 → Nat :=
  let c0_i32_6 : BitVec 32 := 0#32
  let c1_i32_7 : BitVec 32 := 1#32
  let arg12 : BitVec 32 := Scf.iv c0_i32_6 c1_i32_7 k0_t1
  let c256_i32 : BitVec 32 := 256#32
  let v138 : BitVec 32 := Scalar.muli arg12 c256_i32
  let v139 : BitVec 32 := v138
  let v248 : Index := Scalar.indexCast v139
  let c0_59 : Index := 0#32
  ![v248.toNat, 0]
@[reducible] def k0_t2_loop : Scf.Loop 32 :=
  let c0_i32_34 : BitVec 32 := 0#32
  let c32_i32 : BitVec 32 := 32#32
  let v137 : BitVec 32 := Scalar.addi c0_i32_34 c32_i32
  let c1_i32_35 : BitVec 32 := 1#32
  ⟨c0_i32_34, v137, c1_i32_35⟩
def k0_mult2 (k0_t2 : Fin k0_t2_loop.trips) : BitVec 32 :=
  let c0_i32_34 : BitVec 32 := 0#32
  let c1_i32_35 : BitVec 32 := 1#32
  let arg12 : BitVec 32 := Scf.iv c0_i32_34 c1_i32_35 k0_t2
  let c64_i32_38 : BitVec 32 := 64#32
  let v143 : BitVec 32 := Scalar.muli arg12 c64_i32_38
  v143
def k0_mult3 (k0_t2 : Fin k0_t2_loop.trips) : BitVec 32 :=
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let c64_i32_39 : BitVec 32 := 64#32
  let v145 : BitVec 32 := Scalar.muli v140 c64_i32_39
  v145
def k0_off3 (k0_t2 : Fin k0_t2_loop.trips) : Fin 3 → Nat :=
  let c0_40 : Index := 0#32
  let c0_i32_34 : BitVec 32 := 0#32
  let c1_i32_35 : BitVec 32 := 1#32
  let arg12 : BitVec 32 := Scf.iv c0_i32_34 c1_i32_35 k0_t2
  let c64_i32_38 : BitVec 32 := 64#32
  let v143 : BitVec 32 := Scalar.muli arg12 c64_i32_38
  let v144 : BitVec 32 := v143
  let v147 : Index := Scalar.indexCast v144
  let c0_41 : Index := 0#32
  ![0, v147.toNat, 0]
def k0_off4 (k0_t2 : Fin k0_t2_loop.trips) : Fin 2 → Nat :=
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let c64_i32_39 : BitVec 32 := 64#32
  let v145 : BitVec 32 := Scalar.muli v140 c64_i32_39
  let v146 : BitVec 32 := v145
  let v262 : Index := Scalar.indexCast v146
  let c0_65 : Index := 0#32
  ![v262.toNat, 0]
def k0_off5 (k0_t2 : Fin k0_t2_loop.trips) : Fin 4 → Nat :=
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let v141 : BitVec 32 := Scalar.subi v140 arg12
  let c7_i32 : BitVec 32 := 7#32
  let v142 : BitVec 32 := Scalar.addi v141 c7_i32
  let v266 : Index := Scalar.indexCast v142
  let c0_67 : Index := 0#32
  let c0_68 : Index := 0#32
  let c0_69 : Index := 0#32
  ![v266.toNat, 0, 0, 0]
def k0_off6 (k0_t2 : Fin k0_t2_loop.trips) : Fin 3 → Nat :=
  let c0_77 : Index := 0#32
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let c64_i32_39 : BitVec 32 := 64#32
  let v145 : BitVec 32 := Scalar.muli v140 c64_i32_39
  let v146 : BitVec 32 := v145
  let v289 : Index := Scalar.indexCast v146
  let c0_78 : Index := 0#32
  ![0, v289.toNat, 0]
def k0_off7 (k0_t2 : Fin k0_t2_loop.trips) : Fin 3 → Nat :=
  let c0_85 : Index := 0#32
  let c0_i32_34 : BitVec 32 := 0#32
  let c1_i32_35 : BitVec 32 := 1#32
  let arg12 : BitVec 32 := Scf.iv c0_i32_34 c1_i32_35 k0_t2
  let c64_i32_38 : BitVec 32 := 64#32
  let v143 : BitVec 32 := Scalar.muli arg12 c64_i32_38
  let v144 : BitVec 32 := v143
  let v307 : Index := Scalar.indexCast v144
  let c0_86 : Index := 0#32
  ![0, v307.toNat, 0]
def k0_off8 (k0_t2 : Fin k0_t2_loop.trips) : Fin 2 → Nat :=
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let c64_i32_39 : BitVec 32 := 64#32
  let v145 : BitVec 32 := Scalar.muli v140 c64_i32_39
  let v146 : BitVec 32 := v145
  let v317 : Index := Scalar.indexCast v146
  let c128 : Index := 128#32
  ![v317.toNat, 128]
def k0_off9 (k0_t2 : Fin k0_t2_loop.trips) : Fin 4 → Nat :=
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let v141 : BitVec 32 := Scalar.subi v140 arg12
  let c7_i32 : BitVec 32 := 7#32
  let v142 : BitVec 32 := Scalar.addi v141 c7_i32
  let v321 : Index := Scalar.indexCast v142
  let c1 : Index := 1#32
  let c0_90 : Index := 0#32
  let c0_91 : Index := 0#32
  ![v321.toNat, 1, 0, 0]
def k0_off10 (k0_t2 : Fin k0_t2_loop.trips) : Fin 3 → Nat :=
  let c0_99 : Index := 0#32
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let c64_i32_39 : BitVec 32 := 64#32
  let v145 : BitVec 32 := Scalar.muli v140 c64_i32_39
  let v146 : BitVec 32 := v145
  let v344 : Index := Scalar.indexCast v146
  let c128_100 : Index := 128#32
  ![0, v344.toNat, 128]
def k0_off11 (k0_t2 : Fin k0_t2_loop.trips) : Fin 3 → Nat :=
  let c0_107 : Index := 0#32
  let c0_i32_34 : BitVec 32 := 0#32
  let c1_i32_35 : BitVec 32 := 1#32
  let arg12 : BitVec 32 := Scf.iv c0_i32_34 c1_i32_35 k0_t2
  let c64_i32_38 : BitVec 32 := 64#32
  let v143 : BitVec 32 := Scalar.muli arg12 c64_i32_38
  let v144 : BitVec 32 := v143
  let v362 : Index := Scalar.indexCast v144
  let c128_108 : Index := 128#32
  ![0, v362.toNat, 128]
def k0_off12 (k0_t2 : Fin k0_t2_loop.trips) : Fin 2 → Nat :=
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let c64_i32_39 : BitVec 32 := 64#32
  let v145 : BitVec 32 := Scalar.muli v140 c64_i32_39
  let v146 : BitVec 32 := v145
  let v372 : Index := Scalar.indexCast v146
  let c256 : Index := 256#32
  ![v372.toNat, 256]
def k0_off13 (k0_t2 : Fin k0_t2_loop.trips) : Fin 4 → Nat :=
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let v141 : BitVec 32 := Scalar.subi v140 arg12
  let c7_i32 : BitVec 32 := 7#32
  let v142 : BitVec 32 := Scalar.addi v141 c7_i32
  let v376 : Index := Scalar.indexCast v142
  let c2 : Index := 2#32
  let c0_112 : Index := 0#32
  let c0_113 : Index := 0#32
  ![v376.toNat, 2, 0, 0]
def k0_off14 (k0_t2 : Fin k0_t2_loop.trips) : Fin 3 → Nat :=
  let c0_121 : Index := 0#32
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let c64_i32_39 : BitVec 32 := 64#32
  let v145 : BitVec 32 := Scalar.muli v140 c64_i32_39
  let v146 : BitVec 32 := v145
  let v399 : Index := Scalar.indexCast v146
  let c256_122 : Index := 256#32
  ![0, v399.toNat, 256]
def k0_off15 (k0_t2 : Fin k0_t2_loop.trips) : Fin 3 → Nat :=
  let c0_129 : Index := 0#32
  let c0_i32_34 : BitVec 32 := 0#32
  let c1_i32_35 : BitVec 32 := 1#32
  let arg12 : BitVec 32 := Scf.iv c0_i32_34 c1_i32_35 k0_t2
  let c64_i32_38 : BitVec 32 := 64#32
  let v143 : BitVec 32 := Scalar.muli arg12 c64_i32_38
  let v144 : BitVec 32 := v143
  let v417 : Index := Scalar.indexCast v144
  let c256_130 : Index := 256#32
  ![0, v417.toNat, 256]
def k0_off16 (k0_t2 : Fin k0_t2_loop.trips) : Fin 2 → Nat :=
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let c64_i32_39 : BitVec 32 := 64#32
  let v145 : BitVec 32 := Scalar.muli v140 c64_i32_39
  let v146 : BitVec 32 := v145
  let v427 : Index := Scalar.indexCast v146
  let c384 : Index := 384#32
  ![v427.toNat, 384]
def k0_off17 (k0_t2 : Fin k0_t2_loop.trips) : Fin 4 → Nat :=
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let v141 : BitVec 32 := Scalar.subi v140 arg12
  let c7_i32 : BitVec 32 := 7#32
  let v142 : BitVec 32 := Scalar.addi v141 c7_i32
  let v431 : Index := Scalar.indexCast v142
  let c3 : Index := 3#32
  let c0_134 : Index := 0#32
  let c0_135 : Index := 0#32
  ![v431.toNat, 3, 0, 0]
def k0_off18 (k0_t2 : Fin k0_t2_loop.trips) : Fin 3 → Nat :=
  let c0_143 : Index := 0#32
  let c24_i32 : BitVec 32 := 24#32
  let c0_i32_37 : BitVec 32 := 0#32
  let c0_i32_34 : BitVec 32 := 0#32
  let c1_i32_35 : BitVec 32 := 1#32
  let arg12 : BitVec 32 := Scf.iv c0_i32_34 c1_i32_35 k0_t2
  let c4_i32 : BitVec 32 := 4#32
  let v138 : BitVec 32 := Scalar.subi arg12 c4_i32
  let v139 : BitVec 32 := Scalar.maxsi c0_i32_37 v138
  let v140 : BitVec 32 := Scalar.minsi c24_i32 v139
  let c64_i32_39 : BitVec 32 := 64#32
  let v145 : BitVec 32 := Scalar.muli v140 c64_i32_39
  let v146 : BitVec 32 := v145
  let v454 : Index := Scalar.indexCast v146
  let c384_144 : Index := 384#32
  ![0, v454.toNat, 384]
def k0_off19 (k0_t2 : Fin k0_t2_loop.trips) : Fin 3 → Nat :=
  let c0_151 : Index := 0#32
  let c0_i32_34 : BitVec 32 := 0#32
  let c1_i32_35 : BitVec 32 := 1#32
  let arg12 : BitVec 32 := Scf.iv c0_i32_34 c1_i32_35 k0_t2
  let c64_i32_38 : BitVec 32 := 64#32
  let v143 : BitVec 32 := Scalar.muli arg12 c64_i32_38
  let v144 : BitVec 32 := v143
  let v472 : Index := Scalar.indexCast v144
  let c384_152 : Index := 384#32
  ![0, v472.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x4x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefNattenIdeal.lean ====
abbrev S16x2048x1536 : Shape := ⟨3, ![16, 2048, 1536]⟩
abbrev S16x256x1536 : Shape := ⟨3, ![16, 256, 1536]⟩
abbrev S1x64 : Shape := ⟨2, ![1, 64]⟩
abbrev S1x8x15x31 : Shape := ⟨4, ![1, 8, 15, 31]⟩
abbrev S64 : Shape := ⟨1, ![64]⟩
abbrev S16x2048x512 : Shape := ⟨3, ![16, 2048, 512]⟩
abbrev S16x2048x8x64 : Shape := ⟨4, ![16, 2048, 8, 64]⟩
abbrev S_ : Shape := ⟨0, ![]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x256x512 : Shape := ⟨3, ![16, 256, 512]⟩
abbrev S16x256x8x64 : Shape := ⟨4, ![16, 256, 8, 64]⟩
abbrev S16x256x8 : Shape := ⟨3, ![16, 256, 8]⟩
abbrev S16x256x8x1 : Shape := ⟨4, ![16, 256, 8, 1]⟩
abbrev S4x16 : Shape := ⟨2, ![4, 16]⟩
abbrev S4 : Shape := ⟨1, ![4]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S4x1x32 : Shape := ⟨3, ![4, 1, 32]⟩
abbrev S4x16x1 : Shape := ⟨3, ![4, 16, 1]⟩
abbrev S4x16x32 : Shape := ⟨3, ![4, 16, 32]⟩
abbrev S16x32x4x16x8x64 : Shape := ⟨6, ![16, 32, 4, 16, 8, 64]⟩
abbrev S16x32x64x8x64 : Shape := ⟨5, ![16, 32, 64, 8, 64]⟩
abbrev S8x15x31 : Shape := ⟨3, ![8, 15, 31]⟩
abbrev S4x16x32x1 : Shape := ⟨4, ![4, 16, 32, 1]⟩
abbrev S8x15x4x16x32 : Shape := ⟨5, ![8, 15, 4, 16, 32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S16x32x8x64x8x64 : Shape := ⟨6, ![16, 32, 8, 64, 8, 64]⟩
abbrev S4x32x1 : Shape := ⟨3, ![4, 32, 1]⟩
abbrev S16x32x8x4x32x8x64 : Shape := ⟨7, ![16, 32, 8, 4, 32, 8, 64]⟩
abbrev S1 : Shape := ⟨1, ![1]⟩
abbrev S1x1x1 : Shape := ⟨3, ![1, 1, 1]⟩
abbrev S8x32x8x4x16x32 : Shape := ⟨6, ![8, 32, 8, 4, 16, 32]⟩
abbrev S8x32x4x16x8x32 : Shape := ⟨6, ![8, 32, 4, 16, 8, 32]⟩
abbrev S16x8x32x4x16x8x32 : Shape := ⟨7, ![16, 8, 32, 4, 16, 8, 32]⟩
abbrev S1x8x32x4x16x8x32 : Shape := ⟨7, ![1, 8, 32, 4, 16, 8, 32]⟩
abbrev S4x16x1x32 : Shape := ⟨4, ![4, 16, 1, 32]⟩
abbrev S16x8x32x4x16x256 : Shape := ⟨6, ![16, 8, 32, 4, 16, 256]⟩
abbrev S16x8x32x4x16x512 : Shape := ⟨6, ![16, 8, 32, 4, 16, 512]⟩
abbrev S16x8x32x4x16 : Shape := ⟨5, ![16, 8, 32, 4, 16]⟩
abbrev S16x8x32x4x16x1 : Shape := ⟨6, ![16, 8, 32, 4, 16, 1]⟩
abbrev S16x32x4x8x64x16 : Shape := ⟨6, ![16, 32, 4, 8, 64, 16]⟩
abbrev S16x8x64x32x4x16 : Shape := ⟨6, ![16, 8, 64, 32, 4, 16]⟩

abbrev nBuf : Space → Nat
  | .hbm => 295
  | .vmem => 0
  | .smem => 0
  | _ => 0

abbrev hbmTy0_0 (i : Nat) : BufTy := match i % 128 with
  | 0 => ⟨S16x2048x1536, .bf16⟩
  | 1 => ⟨S16x256x1536, .bf16⟩
  | 2 => ⟨S1x64, .f32⟩
  | 3 => ⟨S1x64, .f32⟩
  | 4 => ⟨S1x8x15x31, .f32⟩
  | 5 => ⟨S64, .f32⟩
  | 6 => ⟨S64, .f32⟩
  | 7 => ⟨S16x2048x1536, .f32⟩
  | 8 => ⟨S16x2048x512, .f32⟩
  | 9 => ⟨S16x2048x512, .f32⟩
  | 10 => ⟨S16x2048x512, .f32⟩
  | 11 => ⟨S16x2048x8x64, .f32⟩
  | 12 => ⟨S16x2048x8x64, .f32⟩
  | 13 => ⟨S16x2048x8x64, .f32⟩
  | 14 => ⟨S16x2048x8x64, .f32⟩
  | 15 => ⟨S_, .f32⟩
  | 16 => ⟨S16x2048x8, .f32⟩
  | 17 => ⟨S16x2048x8x1, .f32⟩
  | 18 => ⟨S_, .f32⟩
  | 19 => ⟨S16x2048x8x1, .f32⟩
  | 20 => ⟨S16x2048x8x1, .f32⟩
  | 21 => ⟨S_, .f32⟩
  | 22 => ⟨S16x2048x8x1, .f32⟩
  | 23 => ⟨S16x2048x8x1, .f32⟩
  | 24 => ⟨S16x2048x8x1, .f32⟩
  | 25 => ⟨S16x2048x8x64, .f32⟩
  | 26 => ⟨S16x2048x8x64, .f32⟩
  | 27 => ⟨S1x1x1x64, .f32⟩
  | 28 => ⟨S16x2048x8x64, .f32⟩
  | 29 => ⟨S16x2048x8x64, .f32⟩
  | 30 => ⟨S_, .f32⟩
  | 31 => ⟨S16x2048x8x64, .f32⟩
  | 32 => ⟨S16x2048x8x64, .f32⟩
  | 33 => ⟨S16x2048x8x64, .f32⟩
  | 34 => ⟨S_, .f32⟩
  | 35 => ⟨S16x2048x8, .f32⟩
  | 36 => ⟨S16x2048x8x1, .f32⟩
  | 37 => ⟨S_, .f32⟩
  | 38 => ⟨S16x2048x8x1, .f32⟩
  | 39 => ⟨S16x2048x8x1, .f32⟩
  | 40 => ⟨S_, .f32⟩
  | 41 => ⟨S16x2048x8x1, .f32⟩
  | 42 => ⟨S16x2048x8x1, .f32⟩
  | 43 => ⟨S16x2048x8x1, .f32⟩
  | 44 => ⟨S16x2048x8x64, .f32⟩
  | 45 => ⟨S16x2048x8x64, .f32⟩
  | 46 => ⟨S1x1x1x64, .f32⟩
  | 47 => ⟨S16x2048x8x64, .f32⟩
  | 48 => ⟨S16x2048x8x64, .f32⟩
  | 49 => ⟨S64, .f32⟩
  | 50 => ⟨S64, .f32⟩
  | 51 => ⟨S16x256x1536, .f32⟩
  | 52 => ⟨S16x256x512, .f32⟩
  | 53 => ⟨S16x256x512, .f32⟩
  | 54 => ⟨S16x256x512, .f32⟩
  | 55 => ⟨S16x256x8x64, .f32⟩
  | 56 => ⟨S16x256x8x64, .f32⟩
  | 57 => ⟨S16x256x8x64, .f32⟩
  | 58 => ⟨S16x256x8x64, .f32⟩
  | 59 => ⟨S_, .f32⟩
  | 60 => ⟨S16x256x8, .f32⟩
  | 61 => ⟨S16x256x8x1, .f32⟩
  | 62 => ⟨S_, .f32⟩
  | 63 => ⟨S16x256x8x1, .f32⟩
  | 64 => ⟨S16x256x8x1, .f32⟩
  | 65 => ⟨S_, .f32⟩
  | 66 => ⟨S16x256x8x1, .f32⟩
  | 67 => ⟨S16x256x8x1, .f32⟩
  | 68 => ⟨S16x256x8x1, .f32⟩
  | 69 => ⟨S16x256x8x64, .f32⟩
  | 70 => ⟨S16x256x8x64, .f32⟩
  | 71 => ⟨S1x1x1x64, .f32⟩
  | 72 => ⟨S16x256x8x64, .f32⟩
  | 73 => ⟨S16x256x8x64, .f32⟩
  | 74 => ⟨S_, .f32⟩
  | 75 => ⟨S16x256x8x64, .f32⟩
  | 76 => ⟨S16x256x8x64, .f32⟩
  | 77 => ⟨S16x256x8x64, .f32⟩
  | 78 => ⟨S_, .f32⟩
  | 79 => ⟨S16x256x8, .f32⟩
  | 80 => ⟨S16x256x8x1, .f32⟩
  | 81 => ⟨S_, .f32⟩
  | 82 => ⟨S16x256x8x1, .f32⟩
  | 83 => ⟨S16x256x8x1, .f32⟩
  | 84 => ⟨S_, .f32⟩
  | 85 => ⟨S16x256x8x1, .f32⟩
  | 86 => ⟨S16x256x8x1, .f32⟩
  | 87 => ⟨S16x256x8x1, .f32⟩
  | 88 => ⟨S16x256x8x64, .f32⟩
  | 89 => ⟨S16x256x8x64, .f32⟩
  | 90 => ⟨S1x1x1x64, .f32⟩
  | 91 => ⟨S16x256x8x64, .f32⟩
  | 92 => ⟨S16x256x8x64, .f32⟩
  | 93 => ⟨S64, .i32⟩
  | 94 => ⟨S4x16, .i32⟩
  | 95 => ⟨S_, .i32⟩
  | 96 => ⟨S4x16, .i32⟩
  | 97 => ⟨S4x16, .i32⟩
  | 98 => ⟨S_, .i32⟩
  | 99 => ⟨S_, .i32⟩
  | 100 => ⟨S_, .i32⟩
  | 101 => ⟨S4x16, .i32⟩
  | 102 => ⟨S4x16, .i32⟩
  | 103 => ⟨S_, .i32⟩
  | 104 => ⟨S4x16, .i32⟩
  | 105 => ⟨S4x16, .i32⟩
  | 106 => ⟨S4, .i32⟩
  | 107 => ⟨S_, .i32⟩
  | 108 => ⟨S4, .i32⟩
  | 109 => ⟨S4, .i32⟩
  | 110 => ⟨S_, .i32⟩
  | 111 => ⟨S4, .i32⟩
  | 112 => ⟨S4, .i32⟩
  | 113 => ⟨S_, .i32⟩
  | 114 => ⟨S_, .i32⟩
  | 115 => ⟨S_, .i32⟩
  | 116 => ⟨S4, .i32⟩
  | 117 => ⟨S4, .i32⟩
  | 118 => ⟨S_, .i32⟩
  | 119 => ⟨S4, .i32⟩
  | 120 => ⟨S4, .i32⟩
  | 121 => ⟨S4x1, .i32⟩
  | 122 => ⟨S32, .i32⟩
  | 123 => ⟨S1x32, .i32⟩
  | 124 => ⟨S4x32, .i32⟩
  | 125 => ⟨S4x32, .i32⟩
  | 126 => ⟨S4x32, .i32⟩
  | 127 => ⟨S4x1x32, .i32⟩
  | _ => ⟨S16x2048x1536, .bf16⟩

abbrev hbmTy0_1 (i : Nat) : BufTy := match i % 128 with
  | 0 => ⟨S4x16x1, .i32⟩
  | 1 => ⟨S4x16x32, .i32⟩
  | 2 => ⟨S4x16x32, .i32⟩
  | 3 => ⟨S4x16x32, .i1⟩
  | 4 => ⟨S4x16x1, .i32⟩
  | 5 => ⟨S_, .i32⟩
  | 6 => ⟨S4x16x1, .i32⟩
  | 7 => ⟨S4x16x1, .i32⟩
  | 8 => ⟨S4x16x32, .i32⟩
  | 9 => ⟨S4x16x32, .i32⟩
  | 10 => ⟨S4x16x32, .i1⟩
  | 11 => ⟨S4x16x32, .i1⟩
  | 12 => ⟨S4x16x1, .i32⟩
  | 13 => ⟨S4x16x32, .i32⟩
  | 14 => ⟨S4x16x32, .i32⟩
  | 15 => ⟨S4x16x32, .i32⟩
  | 16 => ⟨S_, .i32⟩
  | 17 => ⟨S4x16x32, .i32⟩
  | 18 => ⟨S4x16x32, .i32⟩
  | 19 => ⟨S_, .i32⟩
  | 20 => ⟨S4x16x32, .i32⟩
  | 21 => ⟨S4x16x32, .i32⟩
  | 22 => ⟨S_, .i32⟩
  | 23 => ⟨S_, .i32⟩
  | 24 => ⟨S_, .i32⟩
  | 25 => ⟨S4x16x32, .i32⟩
  | 26 => ⟨S4x16x32, .i32⟩
  | 27 => ⟨S_, .i32⟩
  | 28 => ⟨S4x16x32, .i32⟩
  | 29 => ⟨S4x16x32, .i32⟩
  | 30 => ⟨S16x32x4x16x8x64, .f32⟩
  | 31 => ⟨S16x32x64x8x64, .f32⟩
  | 32 => ⟨S16x32x64x8x64, .f32⟩
  | 33 => ⟨S8x15x31, .f32⟩
  | 34 => ⟨S_, .i32⟩
  | 35 => ⟨S4x16x32, .i32⟩
  | 36 => ⟨S4x16x32, .i1⟩
  | 37 => ⟨S_, .i32⟩
  | 38 => ⟨S4x16x32, .i32⟩
  | 39 => ⟨S4x16x32, .i32⟩
  | 40 => ⟨S4x16x32, .i32⟩
  | 41 => ⟨S4x16x32x1, .i32⟩
  | 42 => ⟨S8x15x4x16x32, .f32⟩
  | 43 => ⟨S32, .i32⟩
  | 44 => ⟨S_, .i32⟩
  | 45 => ⟨S32, .i32⟩
  | 46 => ⟨S32, .i32⟩
  | 47 => ⟨S_, .i32⟩
  | 48 => ⟨S_, .i32⟩
  | 49 => ⟨S_, .i32⟩
  | 50 => ⟨S32, .i32⟩
  | 51 => ⟨S32, .i32⟩
  | 52 => ⟨S_, .i32⟩
  | 53 => ⟨S32, .i32⟩
  | 54 => ⟨S32, .i32⟩
  | 55 => ⟨S32x1, .i32⟩
  | 56 => ⟨S8, .i32⟩
  | 57 => ⟨S1x8, .i32⟩
  | 58 => ⟨S32x8, .i32⟩
  | 59 => ⟨S32x8, .i32⟩
  | 60 => ⟨S32x8, .i32⟩
  | 61 => ⟨S_, .i32⟩
  | 62 => ⟨S32x8, .i32⟩
  | 63 => ⟨S32x8, .i1⟩
  | 64 => ⟨S_, .i32⟩
  | 65 => ⟨S32x8, .i32⟩
  | 66 => ⟨S32x8, .i32⟩
  | 67 => ⟨S32x8, .i32⟩
  | 68 => ⟨S32x8x1, .i32⟩
  | 69 => ⟨S16x32x8x64x8x64, .f32⟩
  | 70 => ⟨S_, .i32⟩
  | 71 => ⟨S4x32, .i32⟩
  | 72 => ⟨S4x32, .i1⟩
  | 73 => ⟨S_, .i32⟩
  | 74 => ⟨S4x32, .i32⟩
  | 75 => ⟨S4x32, .i32⟩
  | 76 => ⟨S4x32, .i32⟩
  | 77 => ⟨S4x32x1, .i32⟩
  | 78 => ⟨S16x32x8x4x32x8x64, .f32⟩
  | 79 => ⟨S_, .i32⟩
  | 80 => ⟨S32x8, .i32⟩
  | 81 => ⟨S32x8, .i1⟩
  | 82 => ⟨S_, .i32⟩
  | 83 => ⟨S32x8, .i32⟩
  | 84 => ⟨S32x8, .i32⟩
  | 85 => ⟨S32x8, .i32⟩
  | 86 => ⟨S32x8x1, .i32⟩
  | 87 => ⟨S16x32x8x64x8x64, .f32⟩
  | 88 => ⟨S_, .i32⟩
  | 89 => ⟨S4x32, .i32⟩
  | 90 => ⟨S4x32, .i1⟩
  | 91 => ⟨S_, .i32⟩
  | 92 => ⟨S4x32, .i32⟩
  | 93 => ⟨S4x32, .i32⟩
  | 94 => ⟨S4x32, .i32⟩
  | 95 => ⟨S4x32x1, .i32⟩
  | 96 => ⟨S16x32x8x4x32x8x64, .f32⟩
  | 97 => ⟨S32x1, .i32⟩
  | 98 => ⟨S32x8, .i32⟩
  | 99 => ⟨S32x8, .i32⟩
  | 100 => ⟨S_, .i32⟩
  | 101 => ⟨S32x8, .i32⟩
  | 102 => ⟨S32x8, .i32⟩
  | 103 => ⟨S_, .i32⟩
  | 104 => ⟨S32x8, .i32⟩
  | 105 => ⟨S32x8, .i32⟩
  | 106 => ⟨S_, .i32⟩
  | 107 => ⟨S32x8, .i32⟩
  | 108 => ⟨S32x8, .i1⟩
  | 109 => ⟨S_, .i32⟩
  | 110 => ⟨S32x8, .i32⟩
  | 111 => ⟨S32x8, .i32⟩
  | 112 => ⟨S32x8, .i32⟩
  | 113 => ⟨S32x8x1, .i32⟩
  | 114 => ⟨S1, .i32⟩
  | 115 => ⟨S_, .i32⟩
  | 116 => ⟨S32x8x1, .i32⟩
  | 117 => ⟨S32x8x1, .i1⟩
  | 118 => ⟨S1x1x1, .i32⟩
  | 119 => ⟨S32x8x1, .i32⟩
  | 120 => ⟨S32x8x1, .i1⟩
  | 121 => ⟨S32x8x1, .i1⟩
  | 122 => ⟨S_, .i1⟩
  | 123 => ⟨S32x8, .i1⟩
  | 124 => ⟨S8x32x8x4x16x32, .f32⟩
  | 125 => ⟨S8x32x8x4x16x32, .i1⟩
  | 126 => ⟨S_, .f32⟩
  | 127 => ⟨S8x32x8x4x16x32, .f32⟩
  | _ => ⟨S16x2048x1536, .bf16⟩

abbrev hbmTy0_2 (i : Nat) : BufTy := match i % 128 with
  | 0 => ⟨S8x32x8x4x16x32, .f32⟩
  | 1 => ⟨S8x32x4x16x8x32, .f32⟩
  | 2 => ⟨S16x8x32x4x16x8x32, .f32⟩
  | 3 => ⟨S1x8x32x4x16x8x32, .f32⟩
  | 4 => ⟨S16x8x32x4x16x8x32, .f32⟩
  | 5 => ⟨S16x8x32x4x16x8x32, .f32⟩
  | 6 => ⟨S4x16x1x32, .i1⟩
  | 7 => ⟨S_, .f32⟩
  | 8 => ⟨S_, .f32⟩
  | 9 => ⟨S16x8x32x4x16x8x32, .i1⟩
  | 10 => ⟨S16x8x32x4x16x8x32, .f32⟩
  | 11 => ⟨S16x8x32x4x16x8x32, .f32⟩
  | 12 => ⟨S16x8x32x4x16x256, .f32⟩
  | 13 => ⟨S16x8x32x4x16x256, .f32⟩
  | 14 => ⟨S16x8x32x4x16x512, .f32⟩
  | 15 => ⟨S_, .f32⟩
  | 16 => ⟨S16x8x32x4x16, .f32⟩
  | 17 => ⟨S_, .f32⟩
  | 18 => ⟨S16x8x32x4x16, .f32⟩
  | 19 => ⟨S16x8x32x4x16, .f32⟩
  | 20 => ⟨S16x8x32x4x16x1, .f32⟩
  | 21 => ⟨S16x8x32x4x16x512, .f32⟩
  | 22 => ⟨S16x8x32x4x16x512, .f32⟩
  | 23 => ⟨S16x8x32x4x16x512, .f32⟩
  | 24 => ⟨S_, .f32⟩
  | 25 => ⟨S16x8x32x4x16, .f32⟩
  | 26 => ⟨S16x8x32x4x16x1, .f32⟩
  | 27 => ⟨S16x8x32x4x16x512, .f32⟩
  | 28 => ⟨S16x8x32x4x16x512, .f32⟩
  | 29 => ⟨S16x8x32x4x16x256, .f32⟩
  | 30 => ⟨S16x8x32x4x16x8x32, .f32⟩
  | 31 => ⟨S16x32x4x8x64x16, .f32⟩
  | 32 => ⟨S16x32x4x16x8x64, .f32⟩
  | 33 => ⟨S16x8x32x4x16x256, .f32⟩
  | 34 => ⟨S16x8x64x32x4x16, .f32⟩
  | 35 => ⟨S16x32x4x16x8x64, .f32⟩
  | 36 => ⟨S16x32x4x16x8x64, .f32⟩
  | 37 => ⟨S16x2048x512, .f32⟩
  | 38 => ⟨S16x2048x512, .bf16⟩
  | _ => ⟨S16x2048x1536, .bf16⟩

abbrev hbmTy (i : Nat) : BufTy := match i / 128 with
  | 0 => hbmTy0_0 i
  | 1 => hbmTy0_1 i
  | 2 => hbmTy0_2 i
  | _ => ⟨S16x2048x1536, .bf16⟩

abbrev bufTy : (tb : Table) → Fin (tcTables nBuf tb) → BufTy
  | .hbm, ⟨i, _⟩ => hbmTy i
  | _, _ => ⟨S16x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c : Ref sig .tc := ⟨.hbm, 95, rfl⟩
abbrev main_v76 : Ref sig .tc := ⟨.hbm, 96, rfl⟩
abbrev main_v77 : Ref sig .tc := ⟨.hbm, 97, rfl⟩
abbrev main_c_13 : Ref sig .tc := ⟨.hbm, 98, rfl⟩
abbrev main_c_14 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_v78 : Ref sig .tc := ⟨.hbm, 105, rfl⟩
abbrev main_v79 : Ref sig .tc := ⟨.hbm, 106, rfl⟩
abbrev main_c_15 : Ref sig .tc := ⟨.hbm, 107, rfl⟩
abbrev main_v80 : Ref sig .tc := ⟨.hbm, 108, rfl⟩
abbrev main_v81 : Ref sig .tc := ⟨.hbm, 109, rfl⟩
abbrev main_c_16 : Ref sig .tc := ⟨.hbm, 110, rfl⟩
abbrev main_v82 : Ref sig .tc := ⟨.hbm, 111, rfl⟩
abbrev main_v83 : Ref sig .tc := ⟨.hbm, 112, rfl⟩
abbrev main_c_17 : Ref sig .tc := ⟨.hbm, 113, rfl⟩
abbrev main_c_18 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_call1_v3 : Ref sig .tc := ⟨.hbm, 118, rfl⟩
abbrev main_call1_v4 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_19 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_20 : Ref sig .tc := ⟨.hbm, 144, rfl⟩
abbrev main_v107 : Ref sig .tc := ⟨.hbm, 145, rfl⟩
abbrev main_v108 : Ref sig .tc := ⟨.hbm, 146, rfl⟩
abbrev main_c_21 : Ref sig .tc := ⟨.hbm, 147, rfl⟩
abbrev main_v109 : Ref sig .tc := ⟨.hbm, 148, rfl⟩
abbrev main_v110 : Ref sig .tc := ⟨.hbm, 149, rfl⟩
abbrev main_c_22 : Ref sig .tc := ⟨.hbm, 150, rfl⟩
abbrev main_c_23 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_call2_v3 : Ref sig .tc := ⟨.hbm, 155, rfl⟩
abbrev main_call2_v4 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_24 : Ref sig .tc := ⟨.hbm, 162, rfl⟩
abbrev main_v116 : Ref sig .tc := ⟨.hbm, 163, rfl⟩
abbrev main_v117 : Ref sig .tc := ⟨.hbm, 164, rfl⟩
abbrev main_c_25 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_c_26 : Ref sig .tc := ⟨.hbm, 172, rfl⟩
abbrev main_v124 : Ref sig .tc := ⟨.hbm, 173, rfl⟩
abbrev main_v125 : Ref sig .tc := ⟨.hbm, 174, rfl⟩
abbrev main_c_27 : Ref sig .tc := ⟨.hbm, 175, rfl⟩
abbrev main_c_28 : Ref sig .tc := ⟨.hbm, 176, rfl⟩
abbrev main_call3_v0 : Ref sig .tc := ⟨.hbm, 177, rfl⟩
abbrev main_call3_v1 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_c_29 : Ref sig .tc := ⟨.hbm, 189, rfl⟩
abbrev main_v133 : Ref sig .tc := ⟨.hbm, 190, rfl⟩
abbrev main_v134 : Ref sig .tc := ⟨.hbm, 191, rfl⟩
abbrev main_c_30 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_c_31 : Ref sig .tc := ⟨.hbm, 198, rfl⟩
abbrev main_v140 : Ref sig .tc := ⟨.hbm, 199, rfl⟩
abbrev main_v141 : Ref sig .tc := ⟨.hbm, 200, rfl⟩
abbrev main_c_32 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_c_33 : Ref sig .tc := ⟨.hbm, 207, rfl⟩
abbrev main_v147 : Ref sig .tc := ⟨.hbm, 208, rfl⟩
abbrev main_v148 : Ref sig .tc := ⟨.hbm, 209, rfl⟩
abbrev main_c_34 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_c_35 : Ref sig .tc := ⟨.hbm, 216, rfl⟩
abbrev main_v154 : Ref sig .tc := ⟨.hbm, 217, rfl⟩
abbrev main_v155 : Ref sig .tc := ⟨.hbm, 218, rfl⟩
abbrev main_c_36 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_c_37 : Ref sig .tc := ⟨.hbm, 228, rfl⟩
abbrev main_v164 : Ref sig .tc := ⟨.hbm, 229, rfl⟩
abbrev main_v165 : Ref sig .tc := ⟨.hbm, 230, rfl⟩
abbrev main_c_38 : Ref sig .tc := ⟨.hbm, 231, rfl⟩
abbrev main_v166 : Ref sig .tc := ⟨.hbm, 232, rfl⟩
abbrev main_v167 : Ref sig .tc := ⟨.hbm, 233, rfl⟩
abbrev main_call4_c : Ref sig .tc := ⟨.hbm, 234, rfl⟩
abbrev main_call4_v0 : Ref sig .tc := ⟨.hbm, 235, rfl⟩
abbrev main_call4_v1 : Ref sig .tc := ⟨.hbm, 236, rfl⟩
abbrev main_call4_c_0 : Ref sig .tc := ⟨.hbm, 237, rfl⟩
abbrev main_call4_v2 : Ref sig .tc := ⟨.hbm, 238, rfl⟩
abbrev main_call4_v3 : Ref sig .tc := ⟨.hbm, 239, rfl⟩
abbrev main_call4_v4 : Ref sig .tc := ⟨.hbm, 240, rfl⟩
abbrev main_call4_v5 : Ref sig .tc := ⟨.hbm, 241, rfl⟩
abbrev main_call4_c_1 : Ref sig .tc := ⟨.hbm, 242, rfl⟩
abbrev main_call4_c_2 : Ref sig .tc := ⟨.hbm, 243, rfl⟩
abbrev main_call4_v6 : Ref sig .tc := ⟨.hbm, 244, rfl⟩
abbrev main_call4_v7 : Ref sig .tc := ⟨.hbm, 245, rfl⟩
abbrev main_call4_v8 : Ref sig .tc := ⟨.hbm, 246, rfl⟩
abbrev main_call4_v9 : Ref sig .tc := ⟨.hbm, 247, rfl⟩
abbrev main_call4_v10 : Ref sig .tc := ⟨.hbm, 248, rfl⟩
abbrev main_call4_v11 : Ref sig .tc := ⟨.hbm, 249, rfl⟩
abbrev main_call4_c_3 : Ref sig .tc := ⟨.hbm, 250, rfl⟩
abbrev main_call4_v12 : Ref sig .tc := ⟨.hbm, 251, rfl⟩
abbrev main_call4_v13 : Ref sig .tc := ⟨.hbm, 252, rfl⟩
abbrev main_call4_v14 : Ref sig .tc := ⟨.hbm, 253, rfl⟩
abbrev main_call4_cst : Ref sig .tc := ⟨.hbm, 254, rfl⟩
abbrev main_call4_v15 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_cst_39 : Ref sig .tc := ⟨.hbm, 263, rfl⟩
abbrev main_call5_v0 : Ref sig .tc := ⟨.hbm, 264, rfl⟩
abbrev main_call5_v1 : Ref sig .tc := ⟨.hbm, 265, rfl⟩
abbrev main_call5_v2 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_cst_40 : Ref sig .tc := ⟨.hbm, 271, rfl⟩
abbrev main_v179 : Ref sig .tc := ⟨.hbm, 272, rfl⟩
abbrev main_cst_41 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_cst_42 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_v198 : Ref sig .tc := ⟨.hbm, 293, rfl⟩
abbrev main_v199 : Ref sig .tc := ⟨.hbm, 294, rfl⟩

abbrev nD : Nat := 1
abbrev τ : Topo := Topo.v7x

variable {F : FTy → Type} [FloatOps F]
-- ==== OutFfn.lean ====
abbrev S16x2048x1024 : Shape := ⟨3, ![16, 2048, 1024]⟩
abbrev S16x2048x512 : Shape := ⟨3, ![16, 2048, 512]⟩
abbrev S16x6144 : Shape := ⟨2, ![16, 6144]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S16x6x1024 : Shape := ⟨3, ![16, 6, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S1x512x1024 : Shape := ⟨3, ![1, 512, 1024]⟩
abbrev S1x512x512 : Shape := ⟨3, ![1, 512, 512]⟩
abbrev S1x6x1024 : Shape := ⟨3, ![1, 6, 1024]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 18
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x6144, .f32⟩
  | .hbm, ⟨4, _⟩ => ⟨S1x1024, .f32⟩
  | .hbm, ⟨5, _⟩ => ⟨S1x1024x1024, .f32⟩
  | .hbm, ⟨6, _⟩ => ⟨S1x1024x5632, .f32⟩
  | .hbm, ⟨7, _⟩ => ⟨S1x2816x1024, .f32⟩
  | .hbm, ⟨8, _⟩ => ⟨S16x6x1024, .f32⟩
  | .hbm, ⟨9, _⟩ => ⟨S1024, .f32⟩
  | .hbm, ⟨10, _⟩ => ⟨S1x1024, .f32⟩
  | .hbm, ⟨11, _⟩ => ⟨S1024x1024, .f32⟩
  | .hbm, ⟨12, _⟩ => ⟨S1024x1024, .bf16⟩
  | .hbm, ⟨13, _⟩ => ⟨S1024x5632, .f32⟩
  | .hbm, ⟨14, _⟩ => ⟨S1024x5632, .bf16⟩
  | .hbm, ⟨15, _⟩ => ⟨S2816x1024, .f32⟩
  | .hbm, ⟨16, _⟩ => ⟨S2816x1024, .bf16⟩
  | .hbm, ⟨17, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x1024, .bf16⟩
  | .local _ .vmem, ⟨10, _⟩ => ⟨S1024x5632, .bf16⟩
  | .local _ .vmem, ⟨11, _⟩ => ⟨S2816x1024, .bf16⟩
  | .local _ .vmem, ⟨12, _⟩ => ⟨S1x512x1024, .f32⟩
  | .local _ .vmem, ⟨13, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefOutFfnIdeal.lean ====
abbrev S16x2048x1024 : Shape := ⟨3, ![16, 2048, 1024]⟩
abbrev S16x2048x512 : Shape := ⟨3, ![16, 2048, 512]⟩
abbrev S16x6144 : Shape := ⟨2, ![16, 6144]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S16x1x6144 : Shape := ⟨3, ![16, 1, 6144]⟩
abbrev S16x1x1024 : Shape := ⟨3, ![16, 1, 1024]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S2816x1024 : Shape := ⟨2, ![2816, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x6144, .f32⟩
  | .hbm, ⟨4, _⟩ => ⟨S1x1024, .f32⟩
  | .hbm, ⟨5, _⟩ => ⟨S1x1024x1024, .f32⟩
  | .hbm, ⟨6, _⟩ => ⟨S1x1024x5632, .f32⟩
  | .hbm, ⟨7, _⟩ => ⟨S1x2816x1024, .f32⟩
  | .hbm, ⟨8, _⟩ => ⟨S16x1x6144, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x2048x512, .f32⟩
  | .hbm, ⟨16, _⟩ => ⟨S16x2048x512, .f32⟩
  | .hbm, ⟨17, _⟩ => ⟨S16x2048x1024, .f32⟩
  | .hbm, ⟨18, _⟩ => ⟨S1024x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S1024, .f32⟩
  | .hbm, ⟨24, _⟩ => ⟨S16x2048x1024, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x1x1024, .f32⟩
  | .hbm, ⟨42, _⟩ => ⟨S16x1x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S1024x5632, .f32⟩
  | .hbm, ⟨48, _⟩ => ⟨S16x2048x5632, .f32⟩
  | .hbm, ⟨49, _⟩ => ⟨S16x2048x2816, .f32⟩
  | .hbm, ⟨50, _⟩ => ⟨S16x2048x2816, .f32⟩
  | .hbm, ⟨51, _⟩ => ⟨S16x2048x2816, .f32⟩
  | .hbm, ⟨52, _⟩ => ⟨S16x2048x2816, .f32⟩
  | .hbm, ⟨53, _⟩ => ⟨S_, .f32⟩
  | .hbm, ⟨54, _⟩ => ⟨S16x2048x2816, .f32⟩
  | .hbm, ⟨55, _⟩ => ⟨S16x2048x2816, .f32⟩
  | .hbm, ⟨56, _⟩ => ⟨S_, .f32⟩
  | .hbm, ⟨57, _⟩ => ⟨S16x2048x2816, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S2816x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== InProj.lean ====
abbrev S16x2048x1024 : Shape := ⟨3, ![16, 2048, 1024]⟩
abbrev S16x6144 : Shape := ⟨2, ![16, 6144]⟩
abbrev S1x1024 : Shape := ⟨2, ![1, 1024]⟩
abbrev S1x1024x3600 : Shape := ⟨3, ![1, 1024, 3600]⟩
abbrev S16x6x1024 : Shape := ⟨3, ![16, 6, 1024]⟩
abbrev S1024x3600 : Shape := ⟨2, ![1024, 3600]⟩
abbrev S1024x16 : Shape := ⟨2, ![1024, 16]⟩
abbrev S1024x4x1x4 : Shape := ⟨4, ![1024, 4, 1, 4]⟩
abbrev S1024x1x4x4 : Shape := ⟨4, ![1024, 1, 4, 4]⟩
abbrev S1024x1x16 : Shape := ⟨3, ![1024, 1, 16]⟩
abbrev S_ : Shape := ⟨0, ![]⟩
abbrev S1024x1x128 : Shape := ⟨3, ![1024, 1, 128]⟩
abbrev S1024x128 : Shape := ⟨2, ![1024, 128]⟩
abbrev S1024x2048 : Shape := ⟨2, ![1024, 2048]⟩
abbrev S1024x1536 : Shape := ⟨2, ![1024, 1536]⟩
abbrev S1024x3712 : Shape := ⟨2, ![1024, 3712]⟩
abbrev S1024 : Shape := ⟨1, ![1024]⟩
abbrev S16x2048x1536 : Shape := ⟨3, ![16, 2048, 1536]⟩
abbrev S16x2048x512 : Shape := ⟨3, ![16, 2048, 512]⟩
abbrev S16x2048x128 : Shape := ⟨3, ![16, 2048, 128]⟩
abbrev S1x512x1024 : Shape := ⟨3, ![1, 512, 1024]⟩
abbrev S1x6x1024 : Shape := ⟨3, ![1, 6, 1024]⟩
abbrev S1x512x1536 : Shape := ⟨3, ![1, 512, 1536]⟩
abbrev S1x512x512 : Shape := ⟨3, ![1, 512, 512]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S512x1536 : Shape := ⟨2, ![512, 1536]⟩
abbrev S1024x512 : Shape := ⟨2, ![1024, 512]⟩
abbrev S512x512 : Shape := ⟨2, ![512, 512]⟩
abbrev S512x128 : Shape := ⟨2, ![512, 128]⟩

abbrev nBuf : Space → Nat
  | .hbm => 24
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1x1024, .f32⟩
  | .hbm, ⟨3, _⟩ => ⟨S1x1024x3600, .f32⟩
  | .hbm, ⟨4, _⟩ => ⟨S16x6x1024, .f32⟩
  | .hbm, ⟨5, _⟩ => ⟨S1024x3600, .f32⟩
  | .hbm, ⟨6, _⟩ => ⟨S1024x16, .f32⟩
  | .hbm, ⟨7, _⟩ => ⟨S1024x4x1x4, .f32⟩
  | .hbm, ⟨8, _⟩ => ⟨S1024x1x4x4, .f32⟩
  | .hbm, ⟨9, _⟩ => ⟨S1024x1x16, .f32⟩
  | .hbm, ⟨10, _⟩ => ⟨S_, .i32⟩
  | .hbm, ⟨11, _⟩ => ⟨S_, .f32⟩
  | .hbm, ⟨12, _⟩ => ⟨S1024x1x128, .f32⟩
  | .hbm, ⟨13, _⟩ => ⟨S1024x128, .f32⟩
  | .hbm, ⟨14, _⟩ => ⟨S1024x2048, .f32⟩
  | .hbm, ⟨15, _⟩ => ⟨S1024x1536, .f32⟩
  | .hbm, ⟨16, _⟩ => ⟨S1024x3712, .f32⟩
  | .hbm, ⟨17, _⟩ => ⟨S1024x3712, .bf16⟩
  | .hbm, ⟨18, _⟩ => ⟨S1024, .f32⟩
  | .hbm, ⟨19, _⟩ => ⟨S1x1024, .f32⟩
  | .hbm, ⟨20, _⟩ => ⟨S16x2048x1536, .bf16⟩
  | .hbm, ⟨21, _⟩ => ⟨S16x2048x512, .bf16⟩
  | .hbm, ⟨22, _⟩ => ⟨S16x2048x1536, .bf16⟩
  | .hbm, ⟨23, _⟩ => ⟨S16x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3712, .bf16⟩
  | .local _ .vmem, ⟨6, _⟩ => ⟨S1x512x1536, .bf16⟩
  | .local _ .vmem, ⟨7, _⟩ => ⟨S1x512x1536, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x1536, .bf16⟩
  | .local _ .vmem, ⟨11, _⟩ => ⟨S1x512x1536, .bf16⟩
  | .local _ .vmem, ⟨12, _⟩ => ⟨S1x512x128, .f32⟩
  | .local _ .vmem, ⟨13, _⟩ => ⟨S1x512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefInProjIdeal.lean ====
abbrev S16x2048x1024 : Shape := ⟨3, ![16, 2048, 1024]⟩
abbrev S16x6144 : Shape := ⟨2, ![16, 6144]⟩
abbrev S1x1024 : Shape := ⟨2, ![1, 1024]⟩
abbrev S1x1024x3600 : Shape := ⟨3, ![1, 1024, 3600]⟩
abbrev S16x1x6144 : Shape := ⟨3, ![16, 1, 6144]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3600 : Shape := ⟨2, ![1024, 3600]⟩
abbrev S16x2048x3600 : Shape := ⟨3, ![16, 2048, 3600]⟩
abbrev S16x2048x1536 : Shape := ⟨3, ![16, 2048, 1536]⟩
abbrev S16x2048x512 : Shape := ⟨3, ![16, 2048, 512]⟩
abbrev S16x2048x16 : Shape := ⟨3, ![16, 2048, 16]⟩
abbrev S16x2048x128 : Shape := ⟨3, ![16, 2048, 128]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1x1024, .f32⟩
  | .hbm, ⟨3, _⟩ => ⟨S1x1024x3600, .f32⟩
  | .hbm, ⟨4, _⟩ => ⟨S16x1x6144, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S1024x3600, .f32⟩
  | .hbm, ⟨36, _⟩ => ⟨S16x2048x3600, .f32⟩
  | .hbm, ⟨37, _⟩ => ⟨S16x2048x1536, .f32⟩
  | .hbm, ⟨38, _⟩ => ⟨S16x2048x512, .f32⟩
  | .hbm, ⟨39, _⟩ => ⟨S16x2048x16, .f32⟩
  | .hbm, ⟨40, _⟩ => ⟨S16x2048x1536, .f32⟩
  | .hbm, ⟨41, _⟩ => ⟨S_, .i32⟩
  | .hbm, ⟨42, _⟩ => ⟨S_, .f32⟩
  | .hbm, ⟨43, _⟩ => ⟨S16x2048x128, .f32⟩
  | .hbm, ⟨44, _⟩ => ⟨S16x2048x1536, .bf16⟩
  | .hbm, ⟨45, _⟩ => ⟨S16x2048x512, .bf16⟩
  | .hbm, ⟨46, _⟩ => ⟨S16x2048x1536, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c : Ref sig .tc := ⟨.hbm, 41, rfl⟩
abbrev main_call0_v0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.OutFfnForms.lean ====
/-
  The output projection and the feed-forward network of one token row, over the extended reals: the
  functions that both the kernel's blocks and the reference's arrays are read as. A row has 1024
  model lanes, each mixer delivers 512 lanes, and the network has 2816 hidden lanes, whose gates are
  the columns 0..2815 of the input weight and whose other factors are the columns 2816..5631.
-/
module

public import Idealize.ShloMosaic.Lib.Pointwise

@[expose] public section

noncomputable section

namespace Cert.OutFfnForms

open Idealize.ShloMosaic

/-- Column `k` of the first half of 1024. -/
abbrev lo (k : Fin 512) : Fin 1024 := ⟨k.val, by omega⟩
/-- Column `k` of the second half of 1024. -/
abbrev hi (k : Fin 512) : Fin 1024 := ⟨512 + k.val, by omega⟩

/-- The residual after the mixers: the row plus the gated product of the two mixers' rows, set side
    by side, with the output weight. -/
def resid (x g : Fin 1024 → EReal) (dn na : Fin 512 → EReal) (wo : Fin 1024 → Fin 1024 → EReal)
    (j : Fin 1024) : EReal :=
  x j + g j * ((∑ k, dn k * wo (lo k) j) + ∑ k, na k * wo (hi k) j)

/-- A row divided by the root of its mean square, weighted, scaled by one plus `sc`, shifted by `sh`. -/
def hid (r nw sc sh : Fin 1024 → EReal) (j : Fin 1024) : EReal :=
  r j * Ideal.rsqrt (Ideal.div (∑ k, r k * r k) (Ideal.ofBits .f32 0x44800000#32)
      + Ideal.ofBits .f32 0x358637BD#32) * nw j * (1 + sc j) + sh j

/-- A row's product with one column of a weight of 5632 columns. -/
def proj (h : Fin 1024 → EReal) (wi : Fin 1024 → Fin 5632 → EReal) (f : Fin 5632) : EReal :=
  ∑ k, h k * wi k f

/-- The gated activation: `g · 1 / (1 + exp (−g)) · u`. -/
def act (g u : EReal) : EReal := g * Ideal.div 1 (1 + Ideal.exp (0 - g)) * u

/-- The hidden lane `f` of a row. -/
def lane (h : Fin 1024 → EReal) (wi : Fin 1024 → Fin 5632 → EReal) (f : Fin 2816) : EReal :=
  act (proj h wi ⟨f.val, by omega⟩) (proj h wi ⟨2816 + f.val, by omega⟩)

/-- A hidden lane by the numbers of its two columns. -/
theorem lane_at (h : Fin 1024 → EReal) (wi : Fin 1024 → Fin 5632 → EReal) (f : Fin 2816) (a b : Fin 5632)
    (ha : a.val = f.val) (hb : b.val = 2816 + f.val) : lane h wi f = act (proj h wi a) (proj h wi b) := by
  have ea : (⟨f.val, by omega⟩ : Fin 5632) = a := Fin.ext ha.symm
  have eb : (⟨2816 + f.val, by omega⟩ : Fin 5632) = b := Fin.ext hb.symm
  rw [lane, ea, eb]

/-- The row that leaves the layer. -/
def out (r g : Fin 1024 → EReal) (h : Fin 1024 → EReal) (wi : Fin 1024 → Fin 5632 → EReal)
    (wf : Fin 2816 → Fin 1024 → EReal) (j : Fin 1024) : EReal :=
  r j + g j * ∑ f, lane h wi f * wf f j

end Cert.OutFfnForms

end
-- ==== Proof.OutFfnBlock.lean ====
/-
  What one grid point of the output kernel computes: the block of rows it writes, read at a row and a
  lane, is `Cert.OutFfnForms.out` of that row of its input blocks.
-/
module

public import proofs.«01_k».proof.Proof.Gen.OutFfnIdeal.Value
public import proofs.«01_k».proof.Proof.OutFfnForms

@[expose] public section

set_option maxRecDepth 16384

noncomputable section

namespace Cert.OutFfnIdeal.RefValue

open Cert.OutFfnIdeal Cert.OutFfnIdeal.Gen Cert.OutFfnForms Idealize.ShloMosaic

/-- The hidden lanes are worked off in three runs of 1024, 1024 and 768. -/
theorem sum_runs (f : Fin 2816 → EReal) :
    ∑ k, f k = (∑ k : Fin 1024, f ⟨k.val, by omega⟩) + (∑ k : Fin 1024, f ⟨1024 + k.val, by omega⟩)
      + ∑ k : Fin 768, f ⟨2048 + k.val, by omega⟩ := by
  rw [Fin.sum_univ_two_halves 2048 768 rfl f,
    Fin.sum_univ_two_halves 1024 1024 rfl fun k : Fin 2048 => f ⟨k.val, by omega⟩]

variable (x0 : Vec Ideal S1x512x1024 .f32) (x1 x2 : Vec Ideal S1x512x512 .bf16)
  (x3 : Vec Ideal S1x6x1024 .f32) (x4 : Vec Ideal S1x1024 .f32) (x5 : Vec Ideal S1024x1024 .bf16)
  (x6 : Vec Ideal S1024x5632 .bf16) (x7 : Vec Ideal S2816x1024 .bf16) (r : Fin 512)

/-- Row `r` of the residual of the input blocks. -/
abbrev bResid : Fin 1024 → EReal :=
  resid (fun j => x0 (ix3 0 r j)) (fun j => x3 (ix3 0 2 j)) (fun k => x1 (ix3 0 r k))
    (fun k => x2 (ix3 0 r k)) fun k j => x5 (ix2 k j)

/-- Row `r` of the normalised residual of the input blocks. -/
abbrev bHid : Fin 1024 → EReal :=
  hid (bResid x0 x1 x2 x3 x5 r) (fun j => x4 (ix2 0 j)) (fun j => x3 (ix3 0 4 j)) fun j => x3 (ix3 0 3 j)

theorem pay2_apply (j : Fin 1024) :
    k0_pay2 (View.ld x1 r0_0) (View.ld x5 r0_1) (View.ld x2 r0_0) (View.ld x5 r0_2) (View.ld x0 r0_3)
      (View.ld x3 r0_4) (ix2 r j) = bResid x0 x1 x2 x3 x5 r j := by
  pointwise [k0_pay2, bResid, resid]

theorem pay2_apply' (j : Fin 1024) :
    k0_pay2 x1 (View.ld x5 r0_1) x2 (View.ld x5 r0_2) x0 (View.ld x3 r0_4) (ix2 r j)
      = bResid x0 x1 x2 x3 x5 r j := by
  pointwise [k0_pay2, bResid, resid]

theorem pay4_apply (j : Fin 1024) :
    k0_pay4 (k0_pay10 x0 x1 x2 x3 x4 x5 x6 x7) (View.ld x3 r0_6) (View.ld x3 r0_7) (ix2 r j)
      = bHid x0 x1 x2 x3 x4 x5 r j := by
  unfold k0_pay10
  pointwise [k0_pay4, k0_pay3, bHid, hid]
  simp only [pay2_apply]

/-- The block's hidden lane `f`, from the gate's and the other factor's columns. -/
abbrev bLane (f : Fin 2816) : EReal := lane (bHid x0 x1 x2 x3 x4 x5 r) (fun k f => x6 (ix2 k f)) f

theorem pay5_apply (j : Fin 1024) :
    k0_pay5 (k0_pay10 x0 x1 x2 x3 x4 x5 x6 x7) (View.ld x3 r0_6) (View.ld x3 r0_7) (View.ld x6 r0_8)
      (View.ld x6 r0_9) (View.ld x7 r0_10) (ix2 r j)
      = ∑ f : Fin 1024, bLane x0 x1 x2 x3 x4 x5 x6 r ⟨f.val, by omega⟩ * x7 (ix2 ⟨f.val, by omega⟩ j) := by
  pointwise [k0_pay5]
  simp only [pay4_apply]
  rfl

theorem pay6_apply (f : Fin 1024) :
    k0_pay6 (k0_pay10 x0 x1 x2 x3 x4 x5 x6 x7) (View.ld x3 r0_6) (View.ld x3 r0_7) (View.ld x6 r0_11)
      (ix2 r f)
      = proj (bHid x0 x1 x2 x3 x4 x5 r) (fun k f => x6 (ix2 k f)) ⟨1024 + f.val, by omega⟩ := by
  pointwise [k0_pay6]
  simp only [pay4_apply]
  rfl

theorem pay7_apply (f : Fin 1024) :
    k0_pay7 (k0_pay10 x0 x1 x2 x3 x4 x5 x6 x7) (View.ld x3 r0_6) (View.ld x3 r0_7) (View.ld x6 r0_12)
      (ix2 r f)
      = proj (bHid x0 x1 x2 x3 x4 x5 r) (fun k f => x6 (ix2 k f)) ⟨3840 + f.val, by omega⟩ := by
  pointwise [k0_pay7]
  simp only [pay4_apply]
  rfl

/-- The block the body leaves, at row `r` and lane `j`. -/
theorem block_apply (j : Fin 1024) :
    k0_pay1 (k0_pay9 (k0_pay2 x1 (View.ld x5 r0_1) x2 (View.ld x5 r0_2) x0 (View.ld x3 r0_4))
        (k0_pay4 (k0_pay10 x0 x1 x2 x3 x4 x5 x6 x7) (View.ld x3 r0_6) (View.ld x3 r0_7))
        (k0_pay5 (k0_pay10 x0 x1 x2 x3 x4 x5 x6 x7) (View.ld x3 r0_6) (View.ld x3 r0_7) (View.ld x6 r0_8)
          (View.ld x6 r0_9) (View.ld x7 r0_10))
        (k0_pay6 (k0_pay10 x0 x1 x2 x3 x4 x5 x6 x7) (View.ld x3 r0_6) (View.ld x3 r0_7) (View.ld x6 r0_11))
        (k0_pay7 (k0_pay10 x0 x1 x2 x3 x4 x5 x6 x7) (View.ld x3 r0_6) (View.ld x3 r0_7) (View.ld x6 r0_12))
        (k0_pay8 (F := Ideal)) (View.ld x7 r0_13) (View.ld x6 r0_14) (View.ld x6 r0_15) (View.ld x7 r0_16)
        (View.ld x3 r0_17)) (ix3 0 r j)
      = out (bResid x0 x1 x2 x3 x5 r) (fun j => x3 (ix3 0 5 j)) (bHid x0 x1 x2 x3 x4 x5 r)
          (fun k f => x6 (ix2 k f)) (fun f j => x7 (ix2 f j)) j := by
  pointwise [k0_pay1, k0_pay9, k0_pay8, out]
  simp only [pay2_apply', pay4_apply, pay5_apply, pay6_apply, pay7_apply]
  rw [sum_runs]
  refine congrArg (_ + _ * ·) (congrArg₂ (· + ·) (congrArg₂ (· + ·) rfl ?_) ?_)
  · exact Finset.sum_congr rfl fun f _ => congrArg (· * _) (lane_at _ _ _ _ _ rfl (by simp; omega)).symm
  · exact Finset.sum_congr rfl fun f _ => congrArg (· * _)
      (lane_at (bHid x0 x1 x2 x3 x4 x5 r) (fun k f => x6 (ix2 k f)) ⟨2048 + f.val, by omega⟩
        ⟨2048 + f.val, by omega⟩ ⟨4864 + f.val, by omega⟩ rfl (by show 4864 + f.val = 2816 + (2048 + f.val); omega)).symm

end Cert.OutFfnIdeal.RefValue

end
-- ==== Proof.OutFfnRef.lean ====
/-
  What the reference computes: its result, read at a batch, a row and a lane, is
  `Cert.OutFfnForms.out` of the argument arrays' row.
-/
module

public import proofs.«01_k».proof.Proof.Gen.RefOutFfnIdeal.Read
public import proofs.«01_k».proof.Proof.OutFfnForms

@[expose] public section

set_option maxRecDepth 16384

noncomputable section

namespace Cert.RefOutFfnIdeal.RefValue

open Cert.RefOutFfnIdeal Cert.RefOutFfnIdeal.Gen Cert.RefOutFfnIdeal.Read Cert.OutFfnForms Idealize.ShloMosaic

variable (x0 : FVec Ideal S16x2048x1024 .f32) (x1 x2 : FVec Ideal S16x2048x512 .bf16)
  (x3 : FVec Ideal S16x6144 .f32) (x4 : FVec Ideal S1x1024 .f32) (x5 : FVec Ideal S1x1024x1024 .f32)
  (x6 : FVec Ideal S1x1024x5632 .f32) (x7 : FVec Ideal S1x2816x1024 .f32)

/-- Row `n` of batch `b` of the residual. -/
abbrev rResid (b : Fin 16) (n : Fin 2048) : Fin 1024 → EReal :=
  resid (fun j => x0 (ix3 b n j)) (fun j => x3 (ix2 b ⟨2048 + j.val, by omega⟩)) (fun k => x1 (ix3 b n k))
    (fun k => x2 (ix3 b n k)) fun k j => x5 (ix3 0 k j)

/-- Row `n` of batch `b` of the normalised residual. -/
abbrev rHid (b : Fin 16) (n : Fin 2048) : Fin 1024 → EReal :=
  hid (rResid x0 x1 x2 x3 x5 b n) (fun j => x4 (ix2 0 j)) (fun j => x3 (ix2 b ⟨4096 + j.val, by omega⟩))
    fun j => x3 (ix2 b ⟨3072 + j.val, by omega⟩)

theorem resid_apply (b : Fin 16) (n : Fin 2048) (j : Fin 1024) :
    val_main_v14 (F := Ideal) x0 x1 x2 x3 x5 (ix3 b n j) = rResid x0 x1 x2 x3 x5 b n j := by
  pointwise [val_main_v14, val_main_v13, val_main_v12, val_main_v3, val_main_v0, val_main_v11, val_main_v9,
    val_main_v7, val_main_v8, val_main_v10]
  rfl

theorem hid_apply (b : Fin 16) (n : Fin 2048) (j : Fin 1024) :
    val_main_v34 (F := Ideal) x0 x1 x2 x3 x4 x5 (ix3 b n j) = rHid x0 x1 x2 x3 x4 x5 b n j := by
  pointwise [val_main_v34, val_main_v33, val_main_v32, val_main_v31, val_main_v30, val_main_v29,
    val_main_cst_2, val_main_v28, val_main_v27, val_main_v26, val_main_v25, val_main_v24, val_main_v23,
    val_main_v22, val_main_v21, val_main_cst_1, val_main_v20, val_main_v19, val_main_cst_0, val_main_v18,
    val_main_v17, val_main_v16, val_main_cst, val_main_v15, val_main_v0, val_main_v4, val_main_v5]
  simp only [resid_apply]
  rfl

theorem lane_apply (b : Fin 16) (n : Fin 2048) (f : Fin 2816) :
    val_main_v40 (F := Ideal) x0 x1 x2 x3 x4 x5 x6 (ix3 b n f)
      = lane (rHid x0 x1 x2 x3 x4 x5 b n) (fun k f => x6 (ix3 0 k f)) f := by
  pointwise [val_main_v40, val_main_v39, val_main_v38, val_main_v37, val_main_v36, val_main_v35,
    val_main_call0_v5, val_main_call0_v4, val_main_call0_v3, val_main_call0_v2, val_main_call0_v1,
    val_main_call0_v0, val_main_call0_cst, val_main_call0_cst_0]
  simp only [hid_apply]
  rw [← zero_sub]
  rfl

/-- The reference's result at batch `b`, row `n`, lane `j`. -/
theorem out_apply (b : Fin 16) (n : Fin 2048) (j : Fin 1024) :
    val_main_v45 (F := Ideal) x0 x1 x2 x3 x4 x5 x6 x7 (ix3 b n j)
      = out (rResid x0 x1 x2 x3 x5 b n) (fun j => x3 (ix2 b ⟨5120 + j.val, by omega⟩))
          (rHid x0 x1 x2 x3 x4 x5 b n) (fun k f => x6 (ix3 0 k f)) (fun f j => x7 (ix3 0 f j)) j := by
  pointwise [val_main_v45, val_main_v44, val_main_v43, val_main_v42, val_main_v41, val_main_v6, val_main_v0]
  simp only [resid_apply, lane_apply]
  rfl

end Cert.RefOutFfnIdeal.RefValue

end
-- ==== Proof.OutFfnValue.lean ====
/-
  The array the output kernel leaves: every grid point writes its own block of 512 rows of one batch,
  the 64 blocks tile the result, and each element is the reference's element.
-/
module

public import proofs.«01_k».proof.Proof.OutFfnBlock
public import proofs.«01_k».proof.Proof.OutFfnRef
public import Idealize.ShloMosaic.Lib.Pipeline.ValueKit

@[expose] public section

set_option maxRecDepth 16384

noncomputable section

namespace Cert.OutFfnIdeal.RefValue

open Cert.OutFfnIdeal Cert.OutFfnIdeal.Gen Cert.OutFfnForms Idealize.ShloMosaic Idealize.ShloMosaic.TcCoe
open Idealize.SL.Sem
open Idealize.ShloMosaic.Pipeline (Dat)

variable (m : (ℓ : Loc nD τ sig) → Buf (Elt Ideal) ℓ)

/-- The reference's result of the kernel's argument arrays. -/
abbrev REF (c : Dev nD) : FVec Ideal S16x2048x1024 .f32 :=
  Cert.RefOutFfnIdeal.Read.val_main_v45 (F := Ideal) (m ((c : Thread nD τ).loc main_arg0))
    (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))
    (m ((c : Thread nD τ).loc main_arg7))

/-- The windows' block indices at every grid point: batch `t / 4`, rows from `512 (t % 4)`. -/
theorem idx : ∀ t : Fin cfg0.N, win0_0.index t = ![t.val / 4, t.val % 4, 0]
    ∧ win0_1.index t = ![t.val / 4, t.val % 4, 0] ∧ win0_2.index t = ![t.val / 4, t.val % 4, 0]
    ∧ win0_3.index t = ![t.val / 4, 0, 0] ∧ win0_4.index t = ![0, 0] ∧ win0_5.index t = ![0, 0]
    ∧ win0_6.index t = ![0, 0] ∧ win0_7.index t = ![0, 0] ∧ win0_8.index t = ![t.val / 4, t.val % 4, 0] :=
  (by decide +kernel : ∀ t : Fin grid0.N, _)

/-! Each input block read at coordinates: the argument array at the block's placement. -/

theorem h0 (c : Dev nD) (t : Fin cfg0.N) : ∀ (r : Fin 512) (j : Fin 1024), iblk m c 0 t (ix3 0 r j)
      = m ((c : Thread nD τ).loc main_arg0) (ix3 (⟨t.val / 4, by have : t.val < 64 := t.isLt; omega⟩ : Fin 16) (⟨512 * (t.val % 4) + r.val, by have : t.val < 64 := t.isLt; omega⟩ : Fin 2048) j) := by
  intros; blk_ext! [iblk, V, idx t]

theorem h1 (c : Dev nD) (t : Fin cfg0.N) : ∀ (r : Fin 512) (k : Fin 512), iblk m c 1 t (ix3 0 r k)
      = m ((c : Thread nD τ).loc main_arg1) (ix3 (⟨t.val / 4, by have : t.val < 64 := t.isLt; omega⟩ : Fin 16) (⟨512 * (t.val % 4) + r.val, by have : t.val < 64 := t.isLt; omega⟩ : Fin 2048) k) := by
  intros; blk_ext! [iblk, V, idx t]

theorem h2 (c : Dev nD) (t : Fin cfg0.N) : ∀ (r : Fin 512) (k : Fin 512), iblk m c 2 t (ix3 0 r k)
      = m ((c : Thread nD τ).loc main_arg2) (ix3 (⟨t.val / 4, by have : t.val < 64 := t.isLt; omega⟩ : Fin 16) (⟨512 * (t.val % 4) + r.val, by have : t.val < 64 := t.isLt; omega⟩ : Fin 2048) k) := by
  intros; blk_ext! [iblk, V, idx t]

theorem h3 (c : Dev nD) (t : Fin cfg0.N) : ∀ (q : Fin 6) (j : Fin 1024), iblk m c 3 t (ix3 0 q j)
      = m ((c : Thread nD τ).loc main_arg3) (ix2 (⟨t.val / 4, by have : t.val < 64 := t.isLt; omega⟩ : Fin 16) (⟨1024 * q.val + j.val, by omega⟩ : Fin 6144)) := by
  intros; blk_ext! [iblk, V, idx t]

theorem h4 (c : Dev nD) (t : Fin cfg0.N) : ∀ j : Fin 1024, iblk m c 4 t (ix2 0 j) = m ((c : Thread nD τ).loc main_arg4) (ix2 0 j) := by
  intros; blk_ext! [iblk, V, idx t]

theorem h5 (c : Dev nD) (t : Fin cfg0.N) : ∀ (k j : Fin 1024), iblk m c 5 t (ix2 k j)
      = m ((c : Thread nD τ).loc main_arg5) (ix3 0 k j) := by
  intros; blk_ext! [iblk, V, idx t]

theorem h6 (c : Dev nD) (t : Fin cfg0.N) : ∀ (k : Fin 1024) (f : Fin 5632), iblk m c 6 t (ix2 k f)
      = m ((c : Thread nD τ).loc main_arg6) (ix3 0 k f) := by
  intros; blk_ext! [iblk, V, idx t]

theorem h7 (c : Dev nD) (t : Fin cfg0.N) : ∀ (f : Fin 2816) (j : Fin 1024), iblk m c 7 t (ix2 f j)
      = m ((c : Thread nD τ).loc main_arg7) (ix3 0 f j) := by
  intros; blk_ext! [iblk, V, idx t]

/-- A row of the blocks and the row of the arrays that it is give the same result row. -/
theorem rows_eq (x0 : Vec Ideal S1x512x1024 .f32) (x1 x2 : Vec Ideal S1x512x512 .bf16)
    (x3 : Vec Ideal S1x6x1024 .f32) (x4 : Vec Ideal S1x1024 .f32) (x5 : Vec Ideal S1024x1024 .bf16)
    (x6 : Vec Ideal S1024x5632 .bf16) (x7 : Vec Ideal S2816x1024 .bf16)
    (y0 : FVec Ideal S16x2048x1024 .f32) (y1 y2 : FVec Ideal S16x2048x512 .bf16)
    (y3 : FVec Ideal S16x6144 .f32) (y4 : FVec Ideal S1x1024 .f32) (y5 : FVec Ideal S1x1024x1024 .f32)
    (y6 : FVec Ideal S1x1024x5632 .f32) (y7 : FVec Ideal S1x2816x1024 .f32)
    (r : Fin 512) (b : Fin 16) (n : Fin 2048)
    (h0 : ∀ j : Fin 1024, x0 (ix3 0 r j) = y0 (ix3 b n j))
    (h1 : ∀ k : Fin 512, x1 (ix3 0 r k) = y1 (ix3 b n k)) (h2 : ∀ k : Fin 512, x2 (ix3 0 r k) = y2 (ix3 b n k))
    (h3 : ∀ (q : Fin 6) (j : Fin 1024), x3 (ix3 0 q j) = y3 (ix2 b (⟨1024 * q.val + j.val, by omega⟩ : Fin 6144)))
    (h4 : ∀ j : Fin 1024, x4 (ix2 0 j) = y4 (ix2 0 j)) (h5 : ∀ k j : Fin 1024, x5 (ix2 k j) = y5 (ix3 0 k j))
    (h6 : ∀ (k : Fin 1024) (f : Fin 5632), x6 (ix2 k f) = y6 (ix3 0 k f))
    (h7 : ∀ (f : Fin 2816) (j : Fin 1024), x7 (ix2 f j) = y7 (ix3 0 f j)) (j : Fin 1024) :
    out (bResid x0 x1 x2 x3 x5 r) (fun j => x3 (ix3 0 5 j)) (bHid x0 x1 x2 x3 x4 x5 r)
        (fun k f => x6 (ix2 k f)) (fun f j => x7 (ix2 f j)) j
      = out (Cert.RefOutFfnIdeal.RefValue.rResid y0 y1 y2 y3 y5 b n)
          (fun j => y3 (ix2 b ⟨5120 + j.val, by omega⟩))
          (Cert.RefOutFfnIdeal.RefValue.rHid y0 y1 y2 y3 y4 y5 b n)
          (fun k f => y6 (ix3 0 k f)) (fun f j => y7 (ix3 0 f j)) j := by
  simp only [bResid, bHid, h0, h1, h2, h3, h4, h5, h6, h7]
  rfl

/-- What the body leaves at `y` of point `t`'s block is the reference at the index `y` sits at. -/
theorem final (c : Dev nD) : (dats m 0 c).arrAt 8 (cfgs 0).N = REF m c := by
  refine (dats m 0 c).arrAt_eq_of_covers 8 _ (by decide +kernel) fun t _ y => ?_
  blk_simp
  rw [after0_8]
  frame_out
  obtain ⟨y0, r, j, rfl⟩ : ∃ (y0 : Fin 1) (r : Fin 512) (j : Fin 1024), y = ix3 y0 r j :=
    ⟨y 0, y 1, y 2, eq_ix3 y⟩
  obtain rfl : y0 = 0 := Subsingleton.elim _ _
  have hN : t.val < 64 := t.isLt
  have he : ((View.whole main_v9).slice (win0_8.rect t)).emb (ix3 0 r j)
      = ix3 (⟨t.val / 4, by omega⟩ : Fin 16) (⟨512 * (t.val % 4) + r.val, by omega⟩ : Fin 2048) j := by
    blk_ext [idx t]
  rw [he]
  refine (block_apply (iblk m c 0 t) (iblk m c 1 t) (iblk m c 2 t) (iblk m c 3 t) (iblk m c 4 t) (iblk m c 5 t)
    (iblk m c 6 t) (iblk m c 7 t) r j).trans ?_
  refine Eq.trans ?_ (Cert.RefOutFfnIdeal.RefValue.out_apply _ _ _ _ _ _ _ _ _ _ _).symm
  exact rows_eq _ _ _ _ _ _ _ _ _ _ _ _ _ _ _ _ r ⟨t.val / 4, by omega⟩ ⟨512 * (t.val % 4) + r.val, by omega⟩
    (h0 m c t r) (h1 m c t r) (h2 m c t r) (h3 m c t) (h4 m c t) (h5 m c t) (h6 m c t) (h7 m c t) j

end Cert.OutFfnIdeal.RefValue

end
-- ==== Proof.InProjBlock.lean ====
/-
  What one grid point of the input kernel computes: each of the four blocks of rows it writes is the
  product of the normalised rows with a run of the weight's columns.
-/
module

public import proofs.«01_k».proof.Proof.Gen.InProjIdeal.Value
public import proofs.«01_k».proof.Proof.OutFfnForms

@[expose] public section

set_option maxRecDepth 16384

noncomputable section

namespace Cert.InProjIdeal.RefValue

open Cert.InProjIdeal Cert.InProjIdeal.Gen Cert.OutFfnForms Idealize.ShloMosaic

variable (x0 : Vec Ideal S1x512x1024 .f32) (x1 : Vec Ideal S1x6x1024 .f32) (x2 : Vec Ideal S1x1024 .f32)
  (x3 : Vec Ideal S1024x3712 .bf16) (r : Fin 512)

/-- Row `r` of the normalised rows of the input blocks. -/
abbrev bHid : Fin 1024 → EReal :=
  hid (fun j => x0 (ix3 0 r j)) (fun j => x2 (ix2 0 j)) (fun j => x1 (ix3 0 1 j)) fun j => x1 (ix3 0 0 j)

theorem pay4_apply (j : Fin 1024) :
    k0_pay4 x0 x2 (View.ld x1 r0_2) (View.ld x1 r0_3) (ix2 r j) = bHid x0 x1 x2 r j := by
  pointwise [k0_pay4, bHid, hid]

theorem pay6_apply (j : Fin 1024) : k0_pay6 x0 x1 x2 x3 (ix2 r j) = bHid x0 x1 x2 r j := by
  unfold k0_pay6
  pointwise [k0_pay4, bHid, hid]

theorem block4_apply (j : Fin 1536) :
    k0_pay5 x0 x2 (View.ld x1 r0_2) (View.ld x1 r0_3) (View.ld x3 r0_4) (ix3 0 r j)
      = ∑ k, bHid x0 x1 x2 r k * x3 (ix2 k ⟨j.val, by omega⟩) := by
  pointwise [k0_pay5]
  simp only [pay4_apply]

theorem block5_apply (j : Fin 512) :
    k0_pay1 (k0_pay6 x0 x1 x2 x3) (View.ld x3 r0_6) (ix3 0 r j)
      = ∑ k, bHid x0 x1 x2 r k * x3 (ix2 k ⟨1536 + j.val, by omega⟩) := by
  pointwise [k0_pay1]
  simp only [pay6_apply]

theorem block6_apply (j : Fin 1536) :
    k0_pay2 (k0_pay6 x0 x1 x2 x3) (View.ld x3 r0_8) (ix3 0 r j)
      = ∑ k, bHid x0 x1 x2 r k * x3 (ix2 k ⟨2048 + j.val, by omega⟩) := by
  pointwise [k0_pay2]
  simp only [pay6_apply]

theorem block7_apply (j : Fin 128) :
    k0_pay3 (k0_pay6 x0 x1 x2 x3) (View.ld x3 r0_9) (ix3 0 r j)
      = ∑ k, bHid x0 x1 x2 r k * x3 (ix2 k ⟨3584 + j.val, by omega⟩) := by
  pointwise [k0_pay3]
  simp only [pay6_apply]

end Cert.InProjIdeal.RefValue

end
-- ==== Proof.InProjRef.lean ====
/-
  What the reference of the input projection computes: its four results, read at a batch, a row and a
  column, are the normalised row's product with the weight's column, and the gates' lanes past the
  sixteenth are zero.
-/
module

public import proofs.«01_k».proof.Proof.Gen.RefInProjIdeal.Read
public import proofs.«01_k».proof.Proof.OutFfnForms
public import Idealize.ShloMosaic.Lib.KernelVsHost

@[expose] public section

set_option maxRecDepth 16384

noncomputable section

namespace Cert.RefInProjIdeal.RefValue

open Cert.RefInProjIdeal Cert.RefInProjIdeal.Gen Cert.RefInProjIdeal.Read Cert.OutFfnForms Idealize.ShloMosaic

variable (x0 : FVec Ideal S16x2048x1024 .f32) (x1 : FVec Ideal S16x6144 .f32) (x2 : FVec Ideal S1x1024 .f32)
  (x3 : FVec Ideal S1x1024x3600 .f32)

/-- Row `n` of batch `b` of the normalised rows. -/
abbrev rHid (b : Fin 16) (n : Fin 2048) : Fin 1024 → EReal :=
  hid (fun j => x0 (ix3 b n j)) (fun j => x2 (ix2 0 j)) (fun j => x1 (ix2 b ⟨1024 + j.val, by omega⟩))
    fun j => x1 (ix2 b ⟨j.val, by omega⟩)

theorem hid_apply (b : Fin 16) (n : Fin 2048) (j : Fin 1024) :
    val_main_v26 (F := Ideal) x0 x1 x2 (ix3 b n j) = rHid x0 x1 x2 b n j := by
  pointwise [val_main_v26, val_main_v25, val_main_v24, val_main_v23, val_main_v22, val_main_v21,
    val_main_cst_2, val_main_v20, val_main_v19, val_main_v18, val_main_v17, val_main_v16, val_main_v15,
    val_main_v14, val_main_v13, val_main_cst_1, val_main_v12, val_main_v11, val_main_cst_0, val_main_v10,
    val_main_v9, val_main_cst, val_main_v8, val_main_v7, val_main_v0, val_main_v1, val_main_v2]
  rfl

theorem prod_apply (b : Fin 16) (n : Fin 2048) (f : Fin 3600) :
    val_main_v28 (F := Ideal) x0 x1 x2 x3 (ix3 b n f)
      = ∑ k, rHid x0 x1 x2 b n k * x3 (ix3 0 k f) := by
  pointwise [val_main_v28, val_main_v27]
  simp only [hid_apply]

theorem qkv_apply (b : Fin 16) (n : Fin 2048) (f : Fin 1536) :
    val_main_v34 (F := Ideal) x0 x1 x2 x3 (ix3 b n f)
      = ∑ k, rHid x0 x1 x2 b n k * x3 (ix3 0 k ⟨f.val, by omega⟩) := by
  pointwise [val_main_v34, val_main_v29]
  simp only [prod_apply]

theorem z_apply (b : Fin 16) (n : Fin 2048) (f : Fin 512) :
    val_main_v35 (F := Ideal) x0 x1 x2 x3 (ix3 b n f)
      = ∑ k, rHid x0 x1 x2 b n k * x3 (ix3 0 k ⟨1536 + f.val, by omega⟩) := by
  pointwise [val_main_v35, val_main_v30]
  simp only [prod_apply]

theorem na_apply (b : Fin 16) (n : Fin 2048) (f : Fin 1536) :
    val_main_v36 (F := Ideal) x0 x1 x2 x3 (ix3 b n f)
      = ∑ k, rHid x0 x1 x2 b n k * x3 (ix3 0 k ⟨2064 + f.val, by omega⟩) := by
  pointwise [val_main_v36, val_main_v32]
  simp only [prod_apply]

theorem gate_apply (b : Fin 16) (n : Fin 2048) (f : Fin 16) :
    val_main_v31 (F := Ideal) x0 x1 x2 x3 (ix3 b n f)
      = ∑ k, rHid x0 x1 x2 b n k * x3 (ix3 0 k ⟨2048 + f.val, by omega⟩) := by
  pointwise [val_main_v31]
  simp only [prod_apply]

theorem zero_apply (i : S_.Idx) : val_main_call0_v0 (F := Ideal) i = 0 := by
  show (((0#32 : BitVec 32).toInt : ℝ) : EReal) = 0
  simp

/-- A gate's lane: the product below lane 16, zero from there on. -/
theorem ab_apply (b : Fin 16) (n : Fin 2048) (f : Fin 128) :
    val_main_v33 (F := Ideal) x0 x1 x2 x3 (ix3 b n f)
      = if h : f.val < 16 then ∑ k, rHid x0 x1 x2 b n k * x3 (ix3 0 k ⟨2048 + f.val, by omega⟩) else 0 := by
  unfold val_main_v33
  split
  · next h =>
    rw [pad_apply_of_inside (j := ix3 b n f) (k := ix3 b n (⟨f.val, h⟩ : Fin 16))]
    · exact gate_apply x0 x1 x2 x3 b n ⟨f.val, h⟩
    · intro a; fin_cases a <;> simp
  · next h =>
    rw [pad_apply_of_not_inside (a := 2)]
    · exact zero_apply _
    · simp; omega

end Cert.RefInProjIdeal.RefValue

end
-- ==== Proof.InProjWeight.lean ====
/-
  The weight the input kernel is launched with: the argument's columns in a new order — the recurrence's
  columns and its output gate's first, the attention's next, the sixteen gate columns last, filled up
  with zeros to 128 lanes.
-/
module

public import proofs.«01_k».proof.Proof.Gen.InProjIdeal.Value
public import Idealize.ShloMosaic.Lib.Pointwise
public import Idealize.ShloMosaic.Lib.KernelVsHost

@[expose] public section

set_option maxRecDepth 16384

noncomputable section

namespace Cert.InProjIdeal.RefValue

open Cert.InProjIdeal Cert.InProjIdeal.Gen Idealize.ShloMosaic Idealize.ShloMosaic.TcCoe

variable (w : FVec Ideal S1x1024x3600 .f32)

/-- The argument as a matrix. -/
def wMat : FVec Ideal S1024x3600 .f32 := shapeCast S1024x3600 w shapeCasts_S1x1024x3600_S1024x3600

/-- The sixteen gate columns, regrouped over one group of heads. -/
def wGate : FVec Ideal S1024x1x16 .f32 :=
  shapeCast S1024x1x16 (transpose S1024x1x4x4 [0, 2, 1, 3]
    (shapeCast S1024x4x1x4 (extractStridedSlice S1024x16 ![0, 2048] (wMat w) slices_S1024x3600_S1024x16_0_2048)
      shapeCasts_S1024x16_S1024x4x1x4) transposes_S1024x4x1x4_S1024x1x4x4_0_2_1_3) shapeCasts_S1024x1x4x4_S1024x1x16

/-- The gate columns filled up with zeros. -/
def wPad : FVec Ideal S1024x1x128 .f32 :=
  pad S1024x1x128 ![0, 0, 0] ![0, 0, 112] ![0, 0, 0] (wGate w) (sitofp .f32 (constantI S_ 32 0#32) : FVec Ideal S_ .f32)
    pads_S1024x1x16_S1024x1x128_000_000_01120 h_S_

/-- The whole weight. -/
def wPerm : FVec Ideal S1024x3712 .bf16 :=
  truncf .bf16 (concatenate S1024x3712 1
    [⟨S1024x2048, (extractStridedSlice S1024x2048 ![0, 0] (wMat w) slices_S1024x3600_S1024x2048_0_0 : FVec Ideal S1024x2048 .f32)⟩,
     ⟨S1024x1536, (extractStridedSlice S1024x1536 ![0, 2064] (wMat w) slices_S1024x3600_S1024x1536_0_2064 : FVec Ideal S1024x1536 .f32)⟩,
     ⟨S1024x128, (shapeCast S1024x128 (wPad w) shapeCasts_S1024x1x128_S1024x128 : FVec Ideal S1024x128 .f32)⟩]
    concatenates_S1024x2048_S1024x1536_S1024x128_S1024x3712_d1 : FVec Ideal S1024x3712 .f32) bitsLt_bf16_f32

theorem wGate_apply (k : Fin 1024) (f : Fin 16) :
    wGate w (ix3 k 0 f) = w (ix3 0 k (⟨2048 + f.val, by omega⟩ : Fin 3600)) := by
  pointwise [wGate, wMat]

theorem wPad_apply (k : Fin 1024) (f : Fin 128) :
    wPad w (ix3 k 0 f) = if h : f.val < 16 then w (ix3 0 k (⟨2048 + f.val, by omega⟩ : Fin 3600)) else 0 := by
  unfold wPad
  split
  · next h =>
    rw [pad_apply_of_inside (j := ix3 k 0 f) (k := ix3 k 0 (⟨f.val, h⟩ : Fin 16))]
    · exact wGate_apply w k ⟨f.val, h⟩
    · intro a; fin_cases a <;> simp
  · next h =>
    rw [pad_apply_of_not_inside (a := 2)]
    · show (((0#32 : BitVec 32).toInt : ℝ) : EReal) = 0
      simp
    · simp; omega

theorem wPerm_first (k : Fin 1024) (f : Fin 2048) :
    wPerm w (ix2 k (⟨f.val, by omega⟩ : Fin 3712)) = w (ix3 0 k (⟨f.val, by omega⟩ : Fin 3600)) := by
  pointwise [wPerm, wMat]

theorem wPerm_second (k : Fin 1024) (f : Fin 1536) :
    wPerm w (ix2 k (⟨2048 + f.val, by omega⟩ : Fin 3712)) = w (ix3 0 k (⟨2064 + f.val, by omega⟩ : Fin 3600)) := by
  pointwise [wPerm, wMat]

theorem wPerm_last (k : Fin 1024) (f : Fin 128) :
    wPerm w (ix2 k (⟨3584 + f.val, by omega⟩ : Fin 3712))
      = if h : f.val < 16 then w (ix3 0 k (⟨2048 + f.val, by omega⟩ : Fin 3600)) else 0 := by
  rw [← wPad_apply]
  pointwise [wPerm]
  rw [dif_neg (by omega), dif_neg (by omega)]
  exact congrArg (fun a : Fin 128 => wPad w (ix3 k 0 a)) (Fin.ext (by show 3584 + f.val - 2048 - 1536 = f.val; omega))

end Cert.InProjIdeal.RefValue

end
-- ==== Proof.InProjValue.lean ====
/-
  The arrays the input kernel leaves: every grid point writes its own block of 512 rows of one batch
  into each of the four results, and each element is the reference's element.
-/
module

public import proofs.«01_k».proof.Proof.InProjBlock
public import proofs.«01_k».proof.Proof.InProjRef
public import proofs.«01_k».proof.Proof.InProjWeight
public import Idealize.ShloMosaic.Lib.Pipeline.ValueKit

@[expose] public section

set_option maxRecDepth 16384

noncomputable section

namespace Cert.InProjIdeal.RefValue

open Cert.InProjIdeal Cert.InProjIdeal.Gen Cert.OutFfnForms Idealize.ShloMosaic Idealize.ShloMosaic.TcCoe
open Idealize.SL.Sem
open Idealize.ShloMosaic.Pipeline (Dat)

variable (m : (ℓ : Loc nD τ sig) → Buf (Elt Ideal) ℓ)

/-- The windows' block indices at every grid point: batch `t / 4`, rows from `512 (t % 4)`. -/
theorem idx : ∀ t : Fin cfg0.N, win0_0.index t = ![t.val / 4, t.val % 4, 0]
    ∧ win0_1.index t = ![t.val / 4, 0, 0] ∧ win0_2.index t = ![0, 0] ∧ win0_3.index t = ![0, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0] :=
  (by decide +kernel : ∀ t : Fin grid0.N, _)

/-- The batch of a grid point. -/
abbrev bat (t : Fin cfg0.N) : Fin 16 := ⟨t.val / 4, by have : t.val < 64 := t.isLt; omega⟩
/-- The row of its batch that a row of a grid point's block is. -/
abbrev row (t : Fin cfg0.N) (r : Fin 512) : Fin 2048 :=
  ⟨512 * (t.val % 4) + r.val, by have : t.val < 64 := t.isLt; omega⟩

/-! Each input block read at coordinates: the argument array at the block's placement. -/

theorem h0 (c : Dev nD) (t : Fin cfg0.N) : ∀ (r : Fin 512) (j : Fin 1024), iblk m c 0 t (ix3 0 r j)
      = m ((c : Thread nD τ).loc main_arg0) (ix3 (bat t) (row t r) j) := by
  intros; blk_ext! [iblk, V, idx t]

/-- What the launch finds as the modulation's rows: the argument, row by row. -/
theorem V_v0 (c : Dev nD) : V m c main_v0
    = shapeCast S16x6x1024 (m ((c : Thread nD τ).loc main_arg1) : FVec Ideal S16x6144 .f32) shapeCasts_S16x6144_S16x6x1024 := by
  unfold V
  simp only [hostOps0, hostOps0_1, hostOps0_2, List.flatten_cons, List.flatten_nil, List.append_nil, List.cons_append,
      List.nil_append]
  after_results
  rfl

theorem V_v13 (c : Dev nD) : V m c main_v13
    = broadcastInDim S1x1024 ![1] bcast_S1024_S1x1024_1 (shapeCast S1024 (m ((c : Thread nD τ).loc main_arg2) : FVec Ideal S1x1024 .f32) shapeCasts_S1x1024_S1024) := by
  unfold V
  simp only [hostOps0, hostOps0_1, hostOps0_2, List.flatten_cons, List.flatten_nil, List.append_nil, List.cons_append,
      List.nil_append]
  after_results
  rfl

/-- What the launch finds as the weight: the argument's columns in the kernel's order. -/
theorem V_v11 (c : Dev nD) : V m c main_v11
    = wPerm (m ((c : Thread nD τ).loc main_arg3) : FVec Ideal S1x1024x3600 .f32) := by
  unfold V
  simp only [hostOps0, hostOps0_1, hostOps0_2, List.flatten_cons, List.flatten_nil, List.append_nil, List.cons_append,
      List.nil_append]
  after_results
  rfl

theorem h1 (c : Dev nD) (t : Fin cfg0.N) : ∀ (q : Fin 6) (j : Fin 1024), iblk m c 1 t (ix3 0 q j)
      = m ((c : Thread nD τ).loc main_arg1) (ix2 (bat t) (⟨1024 * q.val + j.val, by omega⟩ : Fin 6144)) := by
  intro q j
  have h : iblk m c 1 t (ix3 0 q j) = V m c main_v0 (ix3 (bat t) q j) := by blk_ext! [iblk, idx t]
  rw [h, V_v0]
  pointwise []
  exact congrArg (fun a : Fin 6144 => m ((c : Thread nD τ).loc main_arg1) (ix2 (bat t) a)) (Fin.ext (by
    show q.val * 1024 + j.val = 1024 * q.val + j.val; omega))

theorem h2 (c : Dev nD) (t : Fin cfg0.N) : ∀ j : Fin 1024, iblk m c 2 t (ix2 0 j)
      = m ((c : Thread nD τ).loc main_arg2) (ix2 0 j) := by
  intro j
  have h : iblk m c 2 t (ix2 0 j) = V m c main_v13 (ix2 0 j) := by blk_ext! [iblk, idx t]
  rw [h, V_v13]
  pointwise []

theorem h3 (c : Dev nD) (t : Fin cfg0.N) : ∀ (k : Fin 1024) (f : Fin 3712), iblk m c 3 t (ix2 k f)
      = wPerm (m ((c : Thread nD τ).loc main_arg3) : FVec Ideal S1x1024x3600 .f32) (ix2 k f) := by
  intro k f
  have h : iblk m c 3 t (ix2 k f) = V m c main_v11 (ix2 k f) := by blk_ext! [iblk, idx t]
  rw [h, V_v11]

/-- A row of the blocks and the row of the arrays that it is give the same normalised row. -/
theorem hid_eq (c : Dev nD) (t : Fin cfg0.N) (r : Fin 512) :
    bHid (iblk m c 0 t) (iblk m c 1 t) (iblk m c 2 t) r
      = Cert.RefInProjIdeal.RefValue.rHid (m ((c : Thread nD τ).loc main_arg0)) (m ((c : Thread nD τ).loc main_arg1))
          (m ((c : Thread nD τ).loc main_arg2)) (bat t) (row t r) := by
  have e0 : (fun j : Fin 1024 => iblk m c 0 t (ix3 0 r j))
      = fun j => m ((c : Thread nD τ).loc main_arg0) (ix3 (bat t) (row t r) j) := funext (h0 m c t r)
  have e1 : (fun j : Fin 1024 => iblk m c 1 t (ix3 0 0 j))
      = fun j => m ((c : Thread nD τ).loc main_arg1) (ix2 (bat t) (⟨j.val, by omega⟩ : Fin 6144)) :=
    funext fun j => (h1 m c t 0 j).trans (congrArg (fun a : Fin 6144 => m ((c : Thread nD τ).loc main_arg1) (ix2 (bat t) a))
      (Fin.ext (by show 1024 * 0 + j.val = j.val; omega)))
  have e2 : (fun j : Fin 1024 => iblk m c 1 t (ix3 0 1 j))
      = fun j => m ((c : Thread nD τ).loc main_arg1) (ix2 (bat t) (⟨1024 + j.val, by omega⟩ : Fin 6144)) :=
    funext fun j => h1 m c t 1 j
  have e3 : (fun j : Fin 1024 => iblk m c 2 t (ix2 0 j))
      = fun j => m ((c : Thread nD τ).loc main_arg2) (ix2 0 j) := funext (h2 m c t)
  unfold bHid Cert.RefInProjIdeal.RefValue.rHid
  exact congr (congr (congr (congrArg hid e0) e3) e2) e1

/-- The queries, keys and values of the recurrence: the array the kernel leaves is the reference's. -/
theorem final4 (c : Dev nD) : (dats m 0 c).arrAt 4 (cfgs 0).N
    = Cert.RefInProjIdeal.Read.val_main_v34 (F := Ideal) (m ((c : Thread nD τ).loc main_arg0))
        (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  frame_out
  obtain ⟨y0, r, j, rfl⟩ : ∃ (y0 : Fin 1) (r : Fin 512) (j : Fin 1536), y = ix3 y0 r j :=
    ⟨y 0, y 1, y 2, eq_ix3 y⟩
  obtain rfl : y0 = 0 := Subsingleton.elim _ _
  have he : ((View.whole main_v14_0).slice (win0_4.rect t)).emb (ix3 0 r j) = ix3 (bat t) (row t r) j := by
    blk_ext [idx t]
  rw [he]
  refine (block4_apply (iblk m c 0 t) (iblk m c 1 t) (iblk m c 2 t) (iblk m c 3 t) r j).trans ?_
  refine Eq.trans ?_ (Cert.RefInProjIdeal.RefValue.qkv_apply _ _ _ _ _ _ _).symm
  rw [hid_eq]
  exact Finset.sum_congr rfl fun k _ => congrArg (_ * ·) ((h3 m c t k _).trans (wPerm_first _ k ⟨j.val, by omega⟩))

/-- The output gate of the recurrence: the array the kernel leaves is the reference's. -/
theorem final5 (c : Dev nD) : (dats m 0 c).arrAt 5 (cfgs 0).N
    = Cert.RefInProjIdeal.Read.val_main_v35 (F := Ideal) (m ((c : Thread nD τ).loc main_arg0))
        (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  frame_out
  obtain ⟨y0, r, j, rfl⟩ : ∃ (y0 : Fin 1) (r : Fin 512) (j : Fin 512), y = ix3 y0 r j :=
    ⟨y 0, y 1, y 2, eq_ix3 y⟩
  obtain rfl : y0 = 0 := Subsingleton.elim _ _
  have he : ((View.whole main_v14_1).slice (win0_5.rect t)).emb (ix3 0 r j) = ix3 (bat t) (row t r) j := by
    blk_ext [idx t]
  rw [he]
  refine (block5_apply (iblk m c 0 t) (iblk m c 1 t) (iblk m c 2 t) (iblk m c 3 t) r j).trans ?_
  refine Eq.trans ?_ (Cert.RefInProjIdeal.RefValue.z_apply _ _ _ _ _ _ _).symm
  rw [hid_eq]
  exact Finset.sum_congr rfl fun k _ => congrArg (_ * ·) ((h3 m c t k _).trans (wPerm_first _ k ⟨1536 + j.val, by omega⟩))

/-- The queries, keys and values of the attention: the array the kernel leaves is the reference's. -/
theorem final6 (c : Dev nD) : (dats m 0 c).arrAt 6 (cfgs 0).N
    = Cert.RefInProjIdeal.Read.val_main_v36 (F := Ideal) (m ((c : Thread nD τ).loc main_arg0))
        (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]
  frame_out
  obtain ⟨y0, r, j, rfl⟩ : ∃ (y0 : Fin 1) (r : Fin 512) (j : Fin 1536), y = ix3 y0 r j :=
    ⟨y 0, y 1, y 2, eq_ix3 y⟩
  obtain rfl : y0 = 0 := Subsingleton.elim _ _
  have he : ((View.whole main_v14_2).slice (win0_6.rect t)).emb (ix3 0 r j) = ix3 (bat t) (row t r) j := by
    blk_ext [idx t]
  rw [he]
  refine (block6_apply (iblk m c 0 t) (iblk m c 1 t) (iblk m c 2 t) (iblk m c 3 t) r j).trans ?_
  refine Eq.trans ?_ (Cert.RefInProjIdeal.RefValue.na_apply _ _ _ _ _ _ _).symm
  rw [hid_eq]
  exact Finset.sum_congr rfl fun k _ => congrArg (_ * ·) ((h3 m c t k _).trans (wPerm_second _ k j))

/-- The gate lanes of the recurrence: the array the kernel leaves is the reference's. -/
theorem final7 (c : Dev nD) : (dats m 0 c).arrAt 7 (cfgs 0).N
    = Cert.RefInProjIdeal.Read.val_main_v33 (F := Ideal) (m ((c : Thread nD τ).loc main_arg0))
        (m ((c : Thread nD τ).loc main_arg1)) (m ((c : Thread nD τ).loc main_arg2))
        (m ((c : Thread nD τ).loc main_arg3)) := by
  refine (dats m 0 c).arrAt_eq_of_covers 7 _ (by decide +kernel) fun t _ y => ?_
  blk_simp
  rw [after0_7]
  frame_out
  obtain ⟨y0, r, j, rfl⟩ : ∃ (y0 : Fin 1) (r : Fin 512) (j : Fin 128), y = ix3 y0 r j :=
    ⟨y 0, y 1, y 2, eq_ix3 y⟩
  obtain rfl : y0 = 0 := Subsingleton.elim _ _
  have he : ((View.whole main_v14_3).slice (win0_7.rect t)).emb (ix3 0 r j) = ix3 (bat t) (row t r) j := by
    blk_ext [idx t]
  rw [he]
  refine (block7_apply (iblk m c 0 t) (iblk m c 1 t) (iblk m c 2 t) (iblk m c 3 t) r j).trans ?_
  refine Eq.trans ?_ (Cert.RefInProjIdeal.RefValue.ab_apply _ _ _ _ _ _ _).symm
  rw [hid_eq]
  simp only [h3, wPerm_last]
  split
  · rfl
  · simp

end Cert.InProjIdeal.RefValue

end
-- ==== Proof.NattenRun.lean ====
module

public import proofs.«01_k».proof.Proof.Gen.NattenIdeal.Frame.Runs

@[expose] public section

set_option maxRecDepth 16384

noncomputable section

namespace Cert.NattenRun

open Cert.NattenIdeal Cert.NattenIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
/-- One run of the attention's body on a grid point: which pieces it writes into the output's buffer, given
    what the key scratch held at the start (`f`), and that the body, started with the inputs' buffers at their
    contents, ends with them unchanged and the output's buffer overwritten by those pieces. -/
noncomputable def bodyRun (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole)
    (x0 : Vec F S1x2048x512 .bf16) (x1 : Vec F S1x2048x512 .bf16) (x2 : Vec F S1x2048x512 .bf16) (x3 : Vec F S1x256x512 .bf16) (x4 : Vec F S1x256x512 .bf16) (x5 : Vec F S1x512 .f32) (x6 : Vec F S1x512 .f32) (x7 : Vec F S8x4x128x512 .f32) :
    { L8 : BufTy.Contents (Elt F) arg10.view.ty → List (View.Piece (Elt F) S1x2048x512 .bf16) //
      ∀ (E : Set ℕ) (K : PUnit → sProp (MT nD τ sig Unit (Elt F) ℕ (UR sig nD τ) ℕ)) (fs0 : BufTy.Contents (Elt F) arg10.view.ty),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (arg10.view.loc (c : Thread nD τ) ↦[arg10.view.set]{fullShare} fs0) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f (L8 fs0)) ∗ (∃ d, owns (c : Thread nD τ) arg10 fullShare d) ∗ (∃ d, owns (c : Thread nD τ) arg11 fullShare d)) -∗ K ⟨⟩))
          ⊢ wp frame (wpE (defs₀ (F := F)) Variants.none c none) E (cc0_natten i arg1 harg1 arg2 harg2 arg3 harg3 arg4 harg4 arg5 harg5 arg6 harg6 arg7 harg7 arg8 harg8 arg9 harg9 arg10 harg10 arg11 harg11) K } := by
  refine ⟨?_, fun E K fs0 => ?run⟩
  case run =>
    simp only [cc0_natten_eq_skeleton]; unfold cc0_natten_skel
    simp only [k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HS0, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _, _; isplitr; swap; · iexact HS0
      ipureintro; rfl
    iexists _, _; isplitr; swap; · iexact HS1
    ipureintro; rfl

end Cert.NattenRun

end
-- ==== Proof.NattenFrame.lean ====
module

public import proofs.«01_k».proof.Proof.NattenRun
public import Idealize.ShloMosaic.Lib.Claim

@[expose] public section

set_option maxRecDepth 16384

noncomputable section

namespace Cert.NattenRun

open Cert.NattenIdeal Cert.NattenIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The eight trips of the first loop write the whole key scratch. -/
theorem keys_cover (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole) (v19 : Vec F S1x512 .f32) (X : BufTy.Contents (Elt F) arg2.view.ty) :
    ∀ y : S2048x512.Idx, ∃ p ∈ pb_k0_t1 (F := F) Variants.none c none i arg1 harg1 arg2 harg2 arg3 harg3 arg4 harg4 arg5 harg5 arg6 harg6 arg7 harg7 arg8 harg8 arg9 harg9 arg10 harg10 arg11 harg11 v19 X (Scf.trips 0#32 (Scalar.addi 0#32 8#32) 1#32), y ∈ p.1.set :=
  View.cover_of_tiledL _ S256x512.size (by sl_kernel_rfl)

/-- What the first loop leaves in the key scratch does not depend on what was there. -/
theorem keys_eq (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole) (v19 : Vec F S1x512 .f32) (X : BufTy.Contents (Elt F) arg2.view.ty) (f g : BufTy.Contents (Elt F) arg10.view.ty) :
    arg10.view.writes (Elt F) f (pb_k0_t1 (F := F) Variants.none c none i arg1 harg1 arg2 harg2 arg3 harg3 arg4 harg4 arg5 harg5 arg6 harg6 arg7 harg7 arg8 harg8 arg9 harg9 arg10 harg10 arg11 harg11 v19 X (Scf.trips 0#32 (Scalar.addi 0#32 8#32) 1#32))
      = arg10.view.writes (Elt F) g (pb_k0_t1 (F := F) Variants.none c none i arg1 harg1 arg2 harg2 arg3 harg3 arg4 harg4 arg5 harg5 arg6 harg6 arg7 harg7 arg8 harg8 arg9 harg9 arg10 harg10 arg11 harg11 v19 X (Scf.trips 0#32 (Scalar.addi 0#32 8#32) 1#32)) :=
  (harg10.eq_unread rfl).trans ((congrArg harg10.unread (View.read_writes_of_cover _ _ _ _ _
    (keys_cover c i arg1 harg1 arg2 harg2 arg3 harg3 arg4 harg4 arg5 harg5 arg6 harg6 arg7 harg7 arg8 harg8 arg9 harg9 arg10 harg10 arg11 harg11 v19 X))).trans (harg10.eq_unread rfl).symm)

/-- So the output's pieces do not either. -/
theorem pieces_eq (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole)
    (x0 : Vec F S1x2048x512 .bf16) (x1 : Vec F S1x2048x512 .bf16) (x2 : Vec F S1x2048x512 .bf16) (x3 : Vec F S1x256x512 .bf16) (x4 : Vec F S1x256x512 .bf16) (x5 : Vec F S1x512 .f32) (x6 : Vec F S1x512 .f32) (x7 : Vec F S8x4x128x512 .f32) (f g : BufTy.Contents (Elt F) arg10.view.ty) :
    (bodyRun c i arg1 harg1 arg2 harg2 arg3 harg3 arg4 harg4 arg5 harg5 arg6 harg6 arg7 harg7 arg8 harg8 arg9 harg9 arg10 harg10 arg11 harg11 x0 x1 x2 x3 x4 x5 x6 x7).1 f = (bodyRun c i arg1 harg1 arg2 harg2 arg3 harg3 arg4 harg4 arg5 harg5 arg6 harg6 arg7 harg7 arg8 harg8 arg9 harg9 arg10 harg10 arg11 harg11 x0 x1 x2 x3 x4 x5 x6 x7).1 g := by
  unfold bodyRun; dsimp only
  rw [keys_eq c i arg1 harg1 arg2 harg2 arg3 harg3 arg4 harg4 arg5 harg5 arg6 harg6 arg7 harg7 arg8 harg8 arg9 harg9 arg10 harg10 arg11 harg11 _ _ f g]

/-- The output's pieces, whatever the scratch held. -/
def pieces (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole)
    (x0 : Vec F S1x2048x512 .bf16) (x1 : Vec F S1x2048x512 .bf16) (x2 : Vec F S1x2048x512 .bf16) (x3 : Vec F S1x256x512 .bf16) (x4 : Vec F S1x256x512 .bf16) (x5 : Vec F S1x512 .f32) (x6 : Vec F S1x512 .f32) (x7 : Vec F S8x4x128x512 .f32) : List (View.Piece (Elt F) S1x2048x512 .bf16) :=
  (bodyRun c i arg1 harg1 arg2 harg2 arg3 harg3 arg4 harg4 arg5 harg5 arg6 harg6 arg7 harg7 arg8 harg8 arg9 harg9 arg10 harg10 arg11 harg11 x0 x1 x2 x3 x4 x5 x6 x7).1 arg10.view.junk

/-- The pieces cover the output's block. -/
theorem pieces_cover (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole)
    (x0 : Vec F S1x2048x512 .bf16) (x1 : Vec F S1x2048x512 .bf16) (x2 : Vec F S1x2048x512 .bf16) (x3 : Vec F S1x256x512 .bf16) (x4 : Vec F S1x256x512 .bf16) (x5 : Vec F S1x512 .f32) (x6 : Vec F S1x512 .f32) (x7 : Vec F S8x4x128x512 .f32) (y : S1x2048x512.Idx) :
    ∃ pc ∈ pieces c i arg1 harg1 arg2 harg2 arg3 harg3 arg4 harg4 arg5 harg5 arg6 harg6 arg7 harg7 arg8 harg8 arg9 harg9 arg10 harg10 arg11 harg11 x0 x1 x2 x3 x4 x5 x6 x7, y ∈ pc.1.set :=
  View.cover_of_tiledL (pieces c i arg1 harg1 arg2 harg2 arg3 harg3 arg4 harg4 arg5 harg5 arg6 harg6 arg7 harg7 arg8 harg8 arg9 harg9 arg10 harg10 arg11 harg11 x0 x1 x2 x3 x4 x5 x6 x7) S1x64x128.size (by sl_kernel_rfl) y

/-- What the body leaves in the output's staging buffer. -/
def outBlock (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole)
    (x0 : Vec F S1x2048x512 .bf16) (x1 : Vec F S1x2048x512 .bf16) (x2 : Vec F S1x2048x512 .bf16) (x3 : Vec F S1x256x512 .bf16) (x4 : Vec F S1x256x512 .bf16) (x5 : Vec F S1x512 .f32) (x6 : Vec F S1x512 .f32) (x7 : Vec F S8x4x128x512 .f32) : Vec F S1x2048x512 .bf16 :=
  VO0_8.read (Elt F) (VO0_8.writes (Elt F) VO0_8.junk (pieces c i arg1 harg1 arg2 harg2 arg3 harg3 arg4 harg4 arg5 harg5 arg6 harg6 arg7 harg7 arg8 harg8 arg9 harg9 arg10 harg10 arg11 harg11 x0 x1 x2 x3 x4 x5 x6 x7))

/-! ## What the outputs hold after each point -/

/-- What the outputs' staging buffers hold after the body at point `t`: the run's contents at
    the point's memrefs and input blocks. -/
def outsAt0 (c : Dev nD) (t : Fin cfg0.N) : Vec F S1x2048x512 .bf16 :=
  outBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)

/-! ## The pipeline's proof data -/

/-- How the grid's run is described: an input's buffer holds its block after each point, the output's holds
    `outsAt0`, and the two scratch buffers belong to the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q w := Pipeline.shareOf spec0 w
  owed _ := 0

/-- The arrays are those the call starts from. -/
theorem A_eq (c : Dev nD) (w : Fin cfg0.W) : (dats m 0 c).A w = V m c (Pipeline.arrRef spec0 w) := by
  dsimp only [dats]

/-- After a point: the inputs' blocks, and the output's. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Before a point every input's buffer already holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body finds at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: `bodyRun` applies to the blocks, and the output's pieces cover its buffer, whatever the
    scratch held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold outBlock
  rw [show (iprop(∃ d, owns (c : Thread nD τ) scM0_0 fullShare d) : sProp (MT nD τ sig Unit (Elt F) ℕ (UR sig nD τ) ℕ)) = iprop(∃ d f, ⌜scM0_0.view.read (Elt F) f = d⌝ ∗ (scM0_0.view.loc (c : Thread nD τ) ↦[scM0_0.view.set]{fullShare} f)) from rfl]
  iintro ⟨⟨⟨⟨%ds, %fs, -, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _ fs)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro
  rw [pieces_eq (f := fs) (g := scM0_0.view.junk)]
  exact View.read_writes_of_cover _ _ _ _ _ (pieces_cover c _ _ _ _ _ _ _ _ _ _ _ _ _ _ _ _ _ _ _ _ _ _ _ _ _ _ _ _ _ _ _)

/-- The body called by the grid is the one `sound_body` speaks of. -/
theorem defs₀_row (t : Fin cfg0.N) :
    defs₀ (F := F) .tc cfg0.body (cfg0.bodyArgs t (cfg0.slots t)) = bodyAt0 t := by
  unfold defs₀; rw [Defs.onTc_tc]

/-- So every point of the grid is accounted for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole call runs to its end, with every semaphore back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: arguments unchanged and semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.NattenRun

end
-- ==== Proof.NattenForms.lean ====
/-
  The attention's formulas over extended reals: a segment of two heads normalised per head, and one
  query's softmax over its window and the context.
-/
module

public import Idealize.ShloMosaic.Lib.Pointwise
public import Idealize.ShloMosaic.Lib.IdealHost

@[expose] public section

noncomputable section

namespace Cert.NattenForms

open Idealize.ShloMosaic

/-- The squares of the lanes `m` marks. -/
def sqLo (x : Fin 128 → EReal) (m : Fin 128 → BitVec 1) (l : Fin 128) : EReal :=
  Scalar.select (m l) (x l * x l) 0

/-- Two heads side by side, each divided by its root mean square: the high head's squares are all the
    squares less the low head's. -/
def seg (x : Fin 128 → EReal) (m : Fin 128 → BitVec 1) (l : Fin 128) : EReal :=
  x l * Ideal.rsqrt
    (Scalar.select (m l) (∑ k, sqLo x m k) (∑ k, x k * x k - ∑ k, sqLo x m k) * Ideal.ofBits .f32 0x3C800000#32
      + Ideal.ofBits .f32 0x358637BD#32)

/-- Column `128 j + l` of 512. -/
abbrev col (j : Fin 4) (l : Fin 128) : Fin 512 := ⟨128 * j.val + l.val, by omega⟩

/-- Column `128 j + l` of a row, normalised and weighted. -/
def headRms (x w : Fin 512 → EReal) (m : Fin 512 → BitVec 1) (j : Fin 4) (l : Fin 128) : EReal :=
  seg (fun k => x (col j k)) (fun k => m (col j k)) l * w (col j l)

/-- The largest of one query's scores, over its window and the context. -/
def top (sW : Fin 512 → EReal) (sC : Fin 256 → EReal) : EReal :=
  max (Finset.fold max (Ideal.ofBits .f32 0xFF800000#32) sW Finset.univ) (Finset.fold max (Ideal.ofBits .f32 0xFF800000#32) sC Finset.univ)

/-- One query's softmax over its window and the context, applied to one column of the values: the weights' sum divides
    once, at the end. -/
def attnRow (sW : Fin 512 → EReal) (sC : Fin 256 → EReal) (v : Fin 512 → EReal) (vc : Fin 256 → EReal) : EReal :=
  (∑ n, Ideal.exp (sW n - top sW sC) * v n + ∑ n, Ideal.exp (sC n - top sW sC) * vc n)
    * Ideal.div 1 (∑ n, Ideal.exp (sW n - top sW sC) + ∑ n, Ideal.exp (sC n - top sW sC))

/-! ## Sums of reals -/

/-- An extended real that is a real number. -/
def IsReal (x : EReal) : Prop := ∃ r : ℝ, x = (r : EReal)

theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

theorem IsReal.mul {x y : EReal} (hx : IsReal x) (hy : IsReal y) : IsReal (x * y) := by
  obtain ⟨a, rfl⟩ := hx; obtain ⟨b, rfl⟩ := hy; exact ⟨a * b, by rw [EReal.coe_mul]⟩

theorem IsReal.add {x y : EReal} (hx : IsReal x) (hy : IsReal y) : IsReal (x + y) := by
  obtain ⟨a, rfl⟩ := hx; obtain ⟨b, rfl⟩ := hy; exact ⟨a + b, by rw [EReal.coe_add]⟩

theorem IsReal.sum {ι : Type} {s : Finset ι} {f : ι → EReal} (h : ∀ i, IsReal (f i)) : IsReal (∑ i ∈ s, f i) := by
  choose r hr using h
  exact ⟨∑ i ∈ s, r i, by rw [coe_sum]; exact Finset.sum_congr rfl fun i _ => hr i⟩

/-! ## One head's normalisation -/

theorem ofBits_inv64 : Ideal.ofBits .f32 0x3C800000#32 = (((1 : ℝ) / 64 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_eighth : Ideal.ofBits .f32 0x3E000000#32 = (((1 : ℝ) / 8 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

theorem ofBits_bot : Ideal.ofBits .f32 0xFF800000#32 = ⊥ := by
  simp [Ideal.ofBits, Ideal.ieee]

/-- A head's 64 numbers divided by their root mean square and weighted. -/
def rms (x w : Fin 64 → EReal) (d : Fin 64) : EReal :=
  x d * Ideal.rsqrt (Ideal.div (∑ k, x k * x k) (Ideal.ofBits .f32 0x42800000#32) + Ideal.ofBits .f32 0x358637BD#32) * w d

theorem div_64 (s : EReal) : Ideal.div s (Ideal.ofBits .f32 0x42800000#32) = s * Ideal.ofBits .f32 0x3C800000#32 := by
  rw [ofBits_64, ofBits_inv64, Ideal.div, if_neg (by exact_mod_cast (by norm_num : (64 : ℝ) ≠ 0)), one_div, EReal.coe_inv]

theorem rsqrt_coe (r : ℝ) : Ideal.rsqrt (r : EReal) = if r < 0 then ⊥ else if r = 0 then ⊤ else (((Real.sqrt r)⁻¹ : ℝ) : EReal) := rfl

/-- The normalised numbers of a head of reals are reals. -/
theorem rms_real {x w : Fin 64 → EReal} (hx : ∀ k, IsReal (x k)) (hw : ∀ k, IsReal (w k)) (d : Fin 64) : IsReal (rms x w d) := by
  choose r hr using hx
  obtain ⟨e, he, hee⟩ := ofBits_eps
  refine (IsReal.mul ⟨r d, hr d⟩ ?_).mul (hw d)
  have h : Ideal.div (∑ k, x k * x k) (Ideal.ofBits .f32 0x42800000#32) + Ideal.ofBits .f32 0x358637BD#32
      = (((∑ k, r k * r k) * (1 / 64) + e : ℝ) : EReal) := by
    rw [div_64, hee, ofBits_inv64, EReal.coe_add, EReal.coe_mul, coe_sum]
    congr 3; funext k; rw [hr k, EReal.coe_mul]
  have hp : 0 < (∑ k, r k * r k) * (1 / 64) + e := by
    have : 0 ≤ ∑ k, r k * r k := Finset.sum_nonneg fun k _ => mul_self_nonneg _
    positivity
  rw [h]
  exact ⟨(Real.sqrt _)⁻¹, by rw [rsqrt_coe, if_neg (not_lt.mpr hp.le), if_neg hp.ne']⟩

/-- The lane of the pair's lanes where head `hd` of the two has its column `d`. -/
abbrev lane (hd : Fin 2) (d : Fin 64) : Fin 128 := ⟨64 * hd.val + d.val, by omega⟩

theorem sum_lanes (f : Fin 128 → EReal) : ∑ l, f l = ∑ d, f (lane 0 d) + ∑ d, f (lane 1 d) := by
  rw [Fin.sum_univ_two_halves 64 64 rfl f]
  rfl

/-- A pair of heads of reals: each is divided by its own root mean square. -/
theorem seg_eq {x : Fin 128 → EReal} {m : Fin 128 → BitVec 1} (hm : ∀ l, m l = if l.val < 64 then 1#1 else 0#1)
    (hx : ∀ l, IsReal (x l)) (hd : Fin 2) (d : Fin 64) :
    seg x m (lane hd d) = x (lane hd d) * Ideal.rsqrt
      (Ideal.div (∑ k, x (lane hd k) * x (lane hd k)) (Ideal.ofBits .f32 0x42800000#32) + Ideal.ofBits .f32 0x358637BD#32) := by
  choose r hr using hx
  have hlo : ∑ k, sqLo x m k = ((∑ k, r (lane 0 k) * r (lane 0 k) : ℝ) : EReal) := by
    rw [sum_lanes, coe_sum]
    have h0 : ∀ k, sqLo x m (lane 0 k) = ((r (lane 0 k) * r (lane 0 k) : ℝ) : EReal) := fun k => by
      rw [sqLo, hm, if_pos (by simp), hr, EReal.coe_mul]; rfl
    have h1 : ∀ k, sqLo x m (lane 1 k) = 0 := fun k => by
      rw [sqLo, hm, if_neg (by simp)]; rfl
    simp only [h0, h1, Finset.sum_const_zero, add_zero]
  have hall : ∑ k, x k * x k = ((∑ k, r (lane 0 k) * r (lane 0 k) + ∑ k, r (lane 1 k) * r (lane 1 k) : ℝ) : EReal) := by
    rw [sum_lanes, EReal.coe_add, coe_sum, coe_sum]
    simp only [hr, EReal.coe_mul]
  have hhi : ∀ e : Fin 2, ∑ k, x (lane e k) * x (lane e k) = ((∑ k, r (lane e k) * r (lane e k) : ℝ) : EReal) := fun e => by
    rw [coe_sum]; simp only [hr, EReal.coe_mul]
  unfold seg
  rw [div_64, hlo, hall, hhi, hm]
  match hd with
  | 0 => rw [if_pos (by simp)]; rfl
  | 1 =>
    rw [if_neg (by simp), ← EReal.coe_sub, add_sub_cancel_left]; rfl

/-! ## One query's softmax -/

theorem exp_coe (r : ℝ) : Ideal.exp (r : EReal) = ((Real.exp r : ℝ) : EReal) := rfl

/-- The kernel's softmax over 512 window columns, those outside the reference's 256 masked, is the reference's over its
    256 columns and the context: each weight divided by their sum first. -/
theorem attnRow_eq {sK : Fin 512 → EReal} {sR : Fin 256 → EReal} {sC : Fin 256 → EReal} {v : Fin 512 → EReal} {vc : Fin 256 → EReal}
    (f : Fin 256 → Fin 512) (hf : Function.Injective f) (hin : ∀ n, sK (f n) = sR n) (hout : ∀ n, (∀ n', f n' ≠ n) → sK n = ⊥)
    (hR : ∀ n, sR n = ⊥ ∨ IsReal (sR n)) (hC : ∀ n, IsReal (sC n)) (hv : ∀ n, IsReal (v n)) (hvc : ∀ n, IsReal (vc n)) :
    attnRow sK sC v vc
      = ∑ n, Ideal.div (Ideal.exp (sR n - max (Finset.univ.sup sR) (Finset.univ.sup sC)))
            (∑ n, Ideal.exp (sR n - max (Finset.univ.sup sR) (Finset.univ.sup sC)) + ∑ n, Ideal.exp (sC n - max (Finset.univ.sup sR) (Finset.univ.sup sC))) * v (f n)
        + ∑ n, Ideal.div (Ideal.exp (sC n - max (Finset.univ.sup sR) (Finset.univ.sup sC)))
            (∑ n, Ideal.exp (sR n - max (Finset.univ.sup sR) (Finset.univ.sup sC)) + ∑ n, Ideal.exp (sC n - max (Finset.univ.sup sR) (Finset.univ.sup sC))) * vc n := by
  have hsup : Finset.univ.sup sK = Finset.univ.sup sR := by
    apply le_antisymm
    · refine Finset.sup_le fun n _ => ?_
      by_cases h : ∀ n', f n' ≠ n
      · rw [hout n h]; exact bot_le
      · push Not at h
        obtain ⟨n', rfl⟩ := h
        rw [hin]; exact Finset.le_sup (Finset.mem_univ _)
    · refine Finset.sup_le fun n _ => ?_
      rw [← hin]; exact Finset.le_sup (Finset.mem_univ _)
  have htop : top sK sC = max (Finset.univ.sup sR) (Finset.univ.sup sC) := by
    unfold top; rw [ofBits_bot, ← hsup]; rfl
  have hM : IsReal (max (Finset.univ.sup sR) (Finset.univ.sup sC)) := by
    obtain ⟨i, -, hi⟩ := Finset.exists_mem_eq_sup Finset.univ Finset.univ_nonempty sC
    obtain ⟨j, -, hj⟩ := Finset.exists_mem_eq_sup Finset.univ Finset.univ_nonempty sR
    rw [hi, hj]
    rcases hR j with h | h
    · rw [h, max_eq_right bot_le]; exact hC i
    · rcases max_choice (sR j) (sC i) with h' | h' <;> rw [h']
      · exact h
      · exact hC i
  obtain ⟨M, hM⟩ := hM
  unfold attnRow
  rw [htop, hM]
  have hE : ∀ n, ∃ e : ℝ, 0 ≤ e ∧ Ideal.exp (sR n - (M : EReal)) = (e : EReal) := fun n => by
    rcases hR n with h | ⟨r, h⟩
    · exact ⟨0, le_rfl, by rw [h, EReal.bot_sub]; rfl⟩
    · exact ⟨Real.exp (r - M), (Real.exp_pos _).le, by rw [h, ← EReal.coe_sub, exp_coe]⟩
  have hG : ∀ n, ∃ e : ℝ, 0 < e ∧ Ideal.exp (sC n - (M : EReal)) = (e : EReal) := fun n => by
    obtain ⟨r, h⟩ := hC n
    exact ⟨Real.exp (r - M), Real.exp_pos _, by rw [h, ← EReal.coe_sub, exp_coe]⟩
  have hsum : ∀ g : Fin 512 → EReal, ∑ n, Ideal.exp (sK n - (M : EReal)) * g n = ∑ n, Ideal.exp (sR n - (M : EReal)) * g (f n) := fun g => by
    refine (Finset.sum_of_injOn f hf.injOn (fun _ _ => Finset.mem_coe.mpr (Finset.mem_univ _)) (fun n _ hn => ?_) (fun n _ => by rw [hin])).symm
    rw [hout n (fun n' h => hn ⟨n', Finset.mem_coe.mpr (Finset.mem_univ _), h⟩), EReal.bot_sub]
    show 0 * _ = _
    rw [zero_mul]
  have hsum1 : ∑ n, Ideal.exp (sK n - (M : EReal)) = ∑ n, Ideal.exp (sR n - (M : EReal)) := by
    simpa only [mul_one] using hsum fun _ => 1
  rw [hsum, hsum1]
  choose e he hee using hE
  choose g hg hgg using hG
  choose a ha using hv
  choose b hb using hvc
  simp only [hee, hgg, ha, hb]
  rw [← coe_sum, ← coe_sum, ← EReal.coe_add]
  have hD : 0 < ∑ n, e n + ∑ n, g n :=
    add_pos_of_nonneg_of_pos (Finset.sum_nonneg fun n _ => he n) (Finset.sum_pos (fun n _ => hg n) Finset.univ_nonempty)
  have hdiv : ∀ x : ℝ, Ideal.div (x : EReal) ((∑ n, e n + ∑ n, g n : ℝ) : EReal) = ((x * (∑ n, e n + ∑ n, g n)⁻¹ : ℝ) : EReal) := fun x => by
    rw [Ideal.div, if_neg (by exact_mod_cast hD.ne'), EReal.coe_mul, EReal.coe_inv]
  have h1 : Ideal.div 1 ((∑ n, e n + ∑ n, g n : ℝ) : EReal) = (((∑ n, e n + ∑ n, g n)⁻¹ : ℝ) : EReal) := by
    have := hdiv 1
    rwa [one_mul, EReal.coe_one] at this
  rw [h1]
  simp only [hdiv, ← EReal.coe_mul, ← coe_sum, ← EReal.coe_add]
  congr 1
  rw [add_mul, Finset.sum_mul, Finset.sum_mul]
  congr 1 <;> exact Finset.sum_congr rfl fun n _ => by ring

end Cert.NattenForms
-- ==== Proof.NattenBlock.lean ====
module

public import proofs.«01_k».proof.Proof.Gen.NattenIdeal.Skeleton
public import proofs.«01_k».proof.Proof.NattenForms

@[expose] public section

set_option maxRecDepth 8192

noncomputable section

namespace Cert.NattenBlock

open Cert.NattenIdeal Cert.NattenIdeal.Gen Cert.NattenForms
open Idealize.ShloMosaic Idealize.ShloMosaic.TcCoe

/-- A query segment of two heads, each head divided by its root mean square; `m` marks the low head. -/
def seg64 (x : FVec Ideal S64x128 .f32) (m : IVec S1x128 1) : FVec Ideal S64x128 .f32 :=
  k0_pay28 x (mulf x x) m
    (shapeCast S64x1 (multiReduction .add [1] S64 (mulf x x) 0x00000000#32 reduces_S64x128_S64 (.inl rfl) rfl) shapeCasts_S64_S64x1)
    (Scalar.ofBits .f32 0x00000000#32) (shapeCast S1x128 m shapeCasts_S1x128_S1x128)

/-- A key segment of two heads, normalised likewise. -/
def seg256 (x : FVec Ideal S256x128 .f32) (m : IVec S1x128 1) : FVec Ideal S256x128 .f32 :=
  k0_pay70 x m
    (shapeCast S256x1 (multiReduction .add [1] S256 (mulf x x) 0x00000000#32 reduces_S256x128_S256 (.inl rfl) rfl) shapeCasts_S256_S256x1)
    (multiReduction .add [1] S256 (select (broadcastTo S256x128 (shapeCast S1x128 m shapeCasts_S1x128_S1x128) broadcasts_S1x128_S256x128) (mulf x x)
      (broadcast S256x128 (Scalar.ofBits .f32 0x00000000#32 : Ideal .f32))) 0x00000000#32 reduces_S256x128_S256 (.inl rfl) rfl)

theorem seg64_apply (x : FVec Ideal S64x128 .f32) (m : IVec S1x128 1) (w : Fin 64) (l : Fin 128) :
    seg64 x m (ix2 w l) = seg (fun k => x (ix2 w k)) (fun k => m (ix2 0 k)) l := by
  pointwise [seg64, k0_pay28]
  rfl

theorem seg256_apply (x : FVec Ideal S256x128 .f32) (m : IVec S1x128 1) (w : Fin 256) (l : Fin 128) :
    seg256 x m (ix2 w l) = seg (fun k => x (ix2 w k)) (fun k => m (ix2 0 k)) l := by
  pointwise [seg256, k0_pay70]
  rfl

/-- The queries of one image row, normalised, weighted and scaled, as the kernel computes them. -/
def qn (m : IVec S1x512 1) (wt : FVec Ideal S1x512 .f32) (q : Vec Ideal S1x64x512 .bf16) : FVec Ideal S64x512 .f32 :=
  k0_pay35 wt (k0_pay22 m q)
    (k0_pay28 (k0_pay23 q) (k0_pay24 q) (k0_pay25 m) (k0_pay26 q) (Scalar.ofBits .f32 0x00000000#32) (k0_pay27 m))
    (k0_pay29 m (k0_pay21 q)) (k0_pay30 (k0_pay21 q)) (k0_pay31 (k0_pay21 q)) (k0_pay32 m) (k0_pay33 (k0_pay21 q))
    (Scalar.ofBits .f32 0x00000000#32) (k0_pay34 m)

theorem qn_eq (m : IVec S1x512 1) (wt : FVec Ideal S1x512 .f32) (q : Vec Ideal S1x64x512 .bf16) :
    qn m wt q = mulf (mulf (concatenate S64x512 1
      [⟨S64x128, seg64 (extractStridedSlice S64x128 ![0, 0] (k0_pay21 q) slices_S64x512_o0_0_S64x128) (extractStridedSlice S1x128 ![0, 0] m slices_S1x512_o0_0_S1x128)⟩,
       ⟨S64x128, seg64 (extractStridedSlice S64x128 ![0, 128] (k0_pay21 q) slices_S64x512_o0_128_S64x128) (extractStridedSlice S1x128 ![0, 128] m slices_S1x512_o0_128_S1x128)⟩,
       ⟨S64x128, seg64 (extractStridedSlice S64x128 ![0, 256] (k0_pay21 q) slices_S64x512_o0_256_S64x128) (extractStridedSlice S1x128 ![0, 256] m slices_S1x512_o0_256_S1x128)⟩,
       ⟨S64x128, seg64 (extractStridedSlice S64x128 ![0, 384] (k0_pay21 q) slices_S64x512_o0_384_S64x128) (extractStridedSlice S1x128 ![0, 384] m slices_S1x512_o0_384_S1x128)⟩]
      concatenates_S64x128_S64x128_S64x128_S64x128_S64x512_d1) (broadcastTo S64x512 wt broadcasts_S1x512_S64x512))
      (broadcast S64x512 (Scalar.ofBits .f32 0x3E000000#32 : Ideal .f32)) := rfl

/-- The keys of 256 rows, normalised and weighted, as the kernel computes them. -/
def kn (m : IVec S1x512 1) (wt : FVec Ideal S1x512 .f32) (k : Vec Ideal S1x256x512 .bf16) : FVec Ideal S256x512 .bf16 :=
  shapeCast S256x512 (truncf .bf16 (mulf (concatenate S256x512 1
      [⟨S256x128, seg256 (extractStridedSlice S256x128 ![0, 0] (k0_pay3 k) slices_S256x512_o0_0_S256x128) (extractStridedSlice S1x128 ![0, 0] m slices_S1x512_o0_0_S1x128)⟩,
       ⟨S256x128, seg256 (extractStridedSlice S256x128 ![0, 128] (k0_pay3 k) slices_S256x512_o0_128_S256x128) (extractStridedSlice S1x128 ![0, 128] m slices_S1x512_o0_128_S1x128)⟩,
       ⟨S256x128, seg256 (extractStridedSlice S256x128 ![0, 256] (k0_pay3 k) slices_S256x512_o0_256_S256x128) (extractStridedSlice S1x128 ![0, 256] m slices_S1x512_o0_256_S1x128)⟩,
       ⟨S256x128, seg256 (extractStridedSlice S256x128 ![0, 384] (k0_pay3 k) slices_S256x512_o0_384_S256x128) (extractStridedSlice S1x128 ![0, 384] m slices_S1x512_o0_384_S1x128)⟩]
      concatenates_S256x128_S256x128_S256x128_S256x128_S256x512_d1) (broadcastTo S256x512 wt broadcasts_S1x512_S256x512)) bitsLt_bf16_f32) shapeCasts_S256x512_S256x512

theorem qn_apply (m : IVec S1x512 1) (wt : FVec Ideal S1x512 .f32) (q : Vec Ideal S1x64x512 .bf16) (w : Fin 64) (j : Fin 4) (l : Fin 128) :
    qn m wt q (ix2 w (col j l))
      = headRms (fun c => q (ix3 0 w c)) (fun c => wt (ix2 0 c)) (fun c => m (ix2 0 c)) j l * Ideal.ofBits .f32 0x3E000000#32 := by
  rw [qn_eq]
  pointwise [headRms]
  congr 1
  congr 1
  match j with
  | 0 => rw [dif_pos (by simp), seg64_apply]; pointwise [k0_pay21]; simp [col]
  | 1 => rw [dif_neg (by simp <;> omega), dif_pos (by simp), seg64_apply]; pointwise [k0_pay21]; exact congrArg (seg _ _) (Fin.ext (by simp))
  | 2 => rw [dif_neg (by simp <;> omega), dif_neg (by simp <;> omega), dif_pos (by simp <;> omega), seg64_apply]; pointwise [k0_pay21]; exact congrArg (seg _ _) (Fin.ext (by simp <;> omega))
  | 3 => rw [dif_neg (by simp <;> omega), dif_neg (by simp <;> omega), dif_neg (by simp <;> omega), seg64_apply]; pointwise [k0_pay21]; exact congrArg (seg _ _) (Fin.ext (by simp <;> omega))

theorem kn_apply (m : IVec S1x512 1) (wt : FVec Ideal S1x512 .f32) (k : Vec Ideal S1x256x512 .bf16) (w : Fin 256) (j : Fin 4) (l : Fin 128) :
    kn m wt k (ix2 w (col j l)) = headRms (fun c => k (ix3 0 w c)) (fun c => wt (ix2 0 c)) (fun c => m (ix2 0 c)) j l := by
  pointwise [kn, headRms]
  congr 1
  match j with
  | 0 => rw [dif_pos (by simp), seg256_apply]; pointwise [k0_pay3]; simp [col]
  | 1 => rw [dif_neg (by simp <;> omega), dif_pos (by simp), seg256_apply]; pointwise [k0_pay3]; exact congrArg (seg _ _) (Fin.ext (by simp))
  | 2 => rw [dif_neg (by simp <;> omega), dif_neg (by simp <;> omega), dif_pos (by simp <;> omega), seg256_apply]; pointwise [k0_pay3]; exact congrArg (seg _ _) (Fin.ext (by simp <;> omega))
  | 3 => rw [dif_neg (by simp <;> omega), dif_neg (by simp <;> omega), dif_neg (by simp <;> omega), seg256_apply]; pointwise [k0_pay3]; exact congrArg (seg _ _) (Fin.ext (by simp <;> omega))

/-- The two heads of a pair as one matrix of 128 queries: each head's queries with the other head's lanes zero. -/
def stack (lo : IVec S64x128 1) (q : FVec Ideal S64x128 .f32) : FVec Ideal S128x128 .f32 :=
  concatenate S128x128 0 [⟨S64x128, select lo q (broadcast S64x128 (Scalar.ofBits .f32 0x00000000#32 : Ideal .f32))⟩,
    ⟨S64x128, select lo (broadcast S64x128 (Scalar.ofBits .f32 0x00000000#32 : Ideal .f32)) q⟩] concatenates_S64x128_S64x128_S128x128_d0

/-- The pair's scores against the eight window rows, biased. -/
def scoresW (lo : IVec S64x128 1) (q : FVec Ideal S64x128 .f32) (k : FVec Ideal S512x128 .bf16) (b : Vec Ideal S1x1x128x512 .f32) :
    FVec Ideal S128x512 .f32 :=
  addf (matmul dot_S128x128_S512x128_S128x512_1_1_0_0_n_n none (truncf .bf16 (stack lo q) bitsLt_bf16_f32) k (constant S128x512 .f32 0x00000000#32))
    (shapeCast S128x512 b shapeCasts_S1x1x128x512_S128x512)

/-- The pair's scores against the context. -/
def scoresC (lo : IVec S64x128 1) (q : FVec Ideal S64x128 .f32) (k : FVec Ideal S256x128 .bf16) : FVec Ideal S128x256 .f32 :=
  matmul dot_S128x128_S256x128_S128x256_1_1_0_0_n_n none (truncf .bf16 (stack lo q) bitsLt_bf16_f32) k (constant S128x256 .f32 0x00000000#32)

/-- The pair's attention output. -/
def attn (lo : IVec S64x128 1) (q : FVec Ideal S64x128 .f32) (k : FVec Ideal S512x128 .bf16) (b : Vec Ideal S1x1x128x512 .f32)
    (kc : FVec Ideal S256x128 .bf16) (v : Vec Ideal S1x512x128 .bf16) (vc : Vec Ideal S1x256x128 .bf16) : FVec Ideal S1x64x128 .bf16 :=
  k0_pay41 lo (scoresW lo q k b) (scoresC lo q kc)
    (shapeCast S128x1 (multiReduction .maximumf [1] S128 (scoresW lo q k b) 0xFF800000#32 reduces_S128x512_S128 (.inl rfl) rfl) shapeCasts_S128_S128x1)
    (multiReduction .maximumf [1] S128 (scoresC lo q kc) 0xFF800000#32 reduces_S128x256_S128 (.inl rfl) rfl) v vc

theorem stack_apply (lo : IVec S64x128 1) (q : FVec Ideal S64x128 .f32) (i l : Fin 128) : stack lo q (ix2 i l)
      = if h : i.val < 64 then Scalar.select (lo (ix2 ⟨i.val, h⟩ l)) (q (ix2 ⟨i.val, h⟩ l)) 0
        else Scalar.select (lo (ix2 ⟨i.val - 64, by omega⟩ l)) 0 (q (ix2 ⟨i.val - 64, by omega⟩ l)) := by
  pointwise [stack]

theorem scoresW_apply (lo : IVec S64x128 1) (q : FVec Ideal S64x128 .f32) (k : FVec Ideal S512x128 .bf16) (b : Vec Ideal S1x1x128x512 .f32) (i : Fin 128) (n : Fin 512) :
    scoresW lo q k b (ix2 i n) = ∑ l : Fin 128, stack lo q (ix2 i l) * k (ix2 n l) + b (ix4 0 0 i n) := by
  pointwise [scoresW]

theorem scoresC_apply (lo : IVec S64x128 1) (q : FVec Ideal S64x128 .f32) (k : FVec Ideal S256x128 .bf16) (i : Fin 128) (n : Fin 256) :
    scoresC lo q k (ix2 i n) = ∑ l : Fin 128, stack lo q (ix2 i l) * k (ix2 n l) := by
  pointwise [scoresC]

theorem attn_apply (lo : IVec S64x128 1) (q : FVec Ideal S64x128 .f32) (k : FVec Ideal S512x128 .bf16) (b : Vec Ideal S1x1x128x512 .f32)
    (kc : FVec Ideal S256x128 .bf16) (v : Vec Ideal S1x512x128 .bf16) (vc : Vec Ideal S1x256x128 .bf16) (w : Fin 64) (l : Fin 128) :
    attn lo q k b kc v vc (ix3 0 w l)
      = Scalar.select (lo (ix2 w l))
          (attnRow (fun n => scoresW lo q k b (ix2 ⟨w.val, by omega⟩ n)) (fun n => scoresC lo q kc (ix2 ⟨w.val, by omega⟩ n))
            (fun n => v (ix3 0 n l)) (fun n => vc (ix3 0 n l)))
          (attnRow (fun n => scoresW lo q k b (ix2 ⟨64 + w.val, by omega⟩ n)) (fun n => scoresC lo q kc (ix2 ⟨64 + w.val, by omega⟩ n))
            (fun n => v (ix3 0 n l)) (fun n => vc (ix3 0 n l))) := by
  pointwise [attn, k0_pay41]
  rfl

/-- A row of the stacked queries against keys: the sum over its own head's 64 lanes. -/
theorem stack_sum {lo : IVec S64x128 1} (hlo : ∀ w l, lo (ix2 w l) = if l.val < 64 then 1#1 else 0#1) (q : FVec Ideal S64x128 .f32)
    (f : Fin 128 → EReal) (w : Fin 64) (hd : Fin 2) :
    ∑ l, stack lo q (ix2 ⟨64 * hd.val + w.val, by omega⟩ l) * f l = ∑ d, q (ix2 w (lane hd d)) * f (lane hd d) := by
  rw [sum_lanes]
  match hd with
  | 0 =>
    rw [Finset.sum_eq_zero (f := fun d => _ * f (lane 1 d)), add_zero]
    · refine Finset.sum_congr rfl fun d _ => ?_
      rw [stack_apply, dif_pos (by simp), hlo, if_pos (by simp)]
      have e : (⟨64 * (0 : Fin 2).val + w.val, by omega⟩ : Fin 64) = w := Fin.ext (by simp)
      rw [e]; rfl
    · intro d _
      rw [stack_apply, dif_pos (by simp), hlo, if_neg (by simp)]
      exact zero_mul _
  | 1 =>
    rw [Finset.sum_eq_zero (f := fun d => _ * f (lane 0 d)), zero_add]
    · refine Finset.sum_congr rfl fun d _ => ?_
      rw [stack_apply, dif_neg (by simp), hlo, if_neg (by simp)]
      have e : (⟨64 * (1 : Fin 2).val + w.val - 64, by simp⟩ : Fin 64) = w := Fin.ext (by simp)
      rw [e]; rfl
    · intro d _
      rw [stack_apply, dif_neg (by simp), hlo, if_pos (by simp)]
      exact zero_mul _

/-- The pair's output at a column of one of its heads: that head's own softmax. -/
theorem attn_head {lo : IVec S64x128 1} (hlo : ∀ w l, lo (ix2 w l) = if l.val < 64 then 1#1 else 0#1) (q : FVec Ideal S64x128 .f32)
    (k : FVec Ideal S512x128 .bf16) (b : Vec Ideal S1x1x128x512 .f32)
    (kc : FVec Ideal S256x128 .bf16) (v : Vec Ideal S1x512x128 .bf16) (vc : Vec Ideal S1x256x128 .bf16) (w : Fin 64) (hd : Fin 2) (d : Fin 64) :
    attn lo q k b kc v vc (ix3 0 w (lane hd d))
      = attnRow (fun n => ∑ e, q (ix2 w (lane hd e)) * k (ix2 n (lane hd e)) + b (ix4 0 0 ⟨64 * hd.val + w.val, by omega⟩ n))
          (fun n => ∑ e, q (ix2 w (lane hd e)) * kc (ix2 n (lane hd e)))
          (fun n => v (ix3 0 n (lane hd d))) (fun n => vc (ix3 0 n (lane hd d))) := by
  have hW : ∀ n, scoresW lo q k b (ix2 ⟨64 * hd.val + w.val, by omega⟩ n)
      = ∑ e, q (ix2 w (lane hd e)) * k (ix2 n (lane hd e)) + b (ix4 0 0 ⟨64 * hd.val + w.val, by omega⟩ n) := fun n =>
    (scoresW_apply lo q k b _ n).trans (congrArg (· + _) (stack_sum hlo q (fun l => k (ix2 n l)) w hd))
  have hC : ∀ n, scoresC lo q kc (ix2 ⟨64 * hd.val + w.val, by omega⟩ n) = ∑ e, q (ix2 w (lane hd e)) * kc (ix2 n (lane hd e)) := fun n =>
    (scoresC_apply lo q kc _ n).trans (stack_sum hlo q (fun l => kc (ix2 n l)) w hd)
  rw [attn_apply, hlo]
  simp only [← hW, ← hC]
  match hd with
  | 0 =>
    rw [if_pos (by simp)]
    have e : (⟨64 * (0 : Fin 2).val + w.val, by omega⟩ : Fin 128) = ⟨w.val, by omega⟩ := Fin.ext (by simp)
    rw [e]; rfl
  | 1 => rw [if_neg (by simp)]; rfl

end Cert.NattenBlock
-- ==== Proof.NattenTrips.lean ====
module

public import proofs.«01_k».proof.Proof.NattenFrame
public import proofs.«01_k».proof.Proof.NattenBlock

@[expose] public section

set_option maxRecDepth 16384

noncomputable section

namespace Cert.NattenTrips

open Cert.NattenIdeal Cert.NattenIdeal.Gen Cert.NattenForms Cert.NattenBlock Cert.NattenRun
open Idealize.ShloMosaic Idealize.ShloMosaic.TcCoe

/-- A trip of the first loop stores 256 rows of normalised keys. -/
theorem trip1 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole) (v19 : Vec Ideal S1x512 .f32) (X : BufTy.Contents (Elt Ideal) arg2.view.ty) (k : Fin k0_t1_loop.trips) :
    (trip_k0_t1 (F := Ideal) Variants.none c none i arg1 harg1 arg2 harg2 arg3 harg3 arg4 harg4 arg5 harg5 arg6 harg6 arg7 harg7 arg8 harg8 arg9 harg9 arg10 harg10 arg11 harg11 v19 X k).1
      = [⟨Rect.unit (k0_off2 k) S256x512.size (k0_off2_inb k),
          kn k0_pay60 (k0_pay61 v19) (arg2.view.readAt (Elt Ideal) (Rect.unit (s := S1x2048x512) (k0_off1 k) S1x256x512.size (k0_off1_inb k)).toLoadRect X)⟩] := by
  unfold trip_k0_t1; dsimp only
  rfl

/-- A trip of the second loop stores the four head pairs' outputs. -/
theorem trip2 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole) (v18 : IVec S1x512 1) (v22 : FVec Ideal S1x512 .f32) (v134 v135 : IVec S64x128 32)
    (X1 : BufTy.Contents (Elt Ideal) arg1.view.ty) (X3 : BufTy.Contents (Elt Ideal) arg3.view.ty) (X5 : BufTy.Contents (Elt Ideal) arg5.view.ty)
    (X8 : BufTy.Contents (Elt Ideal) arg8.view.ty) (X10 : BufTy.Contents (Elt Ideal) arg10.view.ty) (X11 : BufTy.Contents (Elt Ideal) arg11.view.ty)
    (k : Fin k0_t2_loop.trips) :
    (trip_k0_t2 (F := Ideal) Variants.none c none i arg1 harg1 arg2 harg2 arg3 harg3 arg4 harg4 arg5 harg5 arg6 harg6 arg7 harg7 arg8 harg8 arg9 harg9 arg10 harg10 arg11 harg11 v18 v22 v134 v135 X1 X3 X5 X8 X10 X11 k).1
      = [⟨Rect.unit (k0_off19 k) S1x64x128.size (k0_off19_inb k),
        attn (k0_pay1 v134 v135) (extractStridedSlice S64x128 ![0, 384] (qn v18 v22 (arg1.view.readAt (Elt Ideal) (Rect.unit (s := S1x2048x512) (k0_off3 k) S1x64x512.size (k0_off3_inb k)).toLoadRect X1)) slices_S64x512_o0_384_S64x128)
          (arg10.view.readAt (Elt Ideal) (Rect.unit (s := S2048x512) (k0_off16 k) S512x128.size (k0_off16_inb k)).toLoadRect X10)
          (arg8.view.readAt (Elt Ideal) (Rect.unit (s := S8x4x128x512) (k0_off17 k) S1x1x128x512.size (k0_off17_inb k)).toLoadRect X8)
          (arg11.view.readAt (Elt Ideal) (Rect.unit (s := S256x512) ![0, 384] S256x128.size (by decide)).toLoadRect X11)
          (arg3.view.readAt (Elt Ideal) (Rect.unit (s := S1x2048x512) (k0_off18 k) S1x512x128.size (k0_off18_inb k)).toLoadRect X3)
          (arg5.view.readAt (Elt Ideal) (Rect.unit (s := S1x256x512) ![0, 0, 384] S1x256x128.size (by decide)).toLoadRect X5)⟩,
      ⟨Rect.unit (k0_off15 k) S1x64x128.size (k0_off15_inb k),
        attn (k0_pay1 v134 v135) (extractStridedSlice S64x128 ![0, 256] (qn v18 v22 (arg1.view.readAt (Elt Ideal) (Rect.unit (s := S1x2048x512) (k0_off3 k) S1x64x512.size (k0_off3_inb k)).toLoadRect X1)) slices_S64x512_o0_256_S64x128)
          (arg10.view.readAt (Elt Ideal) (Rect.unit (s := S2048x512) (k0_off12 k) S512x128.size (k0_off12_inb k)).toLoadRect X10)
          (arg8.view.readAt (Elt Ideal) (Rect.unit (s := S8x4x128x512) (k0_off13 k) S1x1x128x512.size (k0_off13_inb k)).toLoadRect X8)
          (arg11.view.readAt (Elt Ideal) (Rect.unit (s := S256x512) ![0, 256] S256x128.size (by decide)).toLoadRect X11)
          (arg3.view.readAt (Elt Ideal) (Rect.unit (s := S1x2048x512) (k0_off14 k) S1x512x128.size (k0_off14_inb k)).toLoadRect X3)
          (arg5.view.readAt (Elt Ideal) (Rect.unit (s := S1x256x512) ![0, 0, 256] S1x256x128.size (by decide)).toLoadRect X5)⟩,
      ⟨Rect.unit (k0_off11 k) S1x64x128.size (k0_off11_inb k),
        attn (k0_pay1 v134 v135) (extractStridedSlice S64x128 ![0, 128] (qn v18 v22 (arg1.view.readAt (Elt Ideal) (Rect.unit (s := S1x2048x512) (k0_off3 k) S1x64x512.size (k0_off3_inb k)).toLoadRect X1)) slices_S64x512_o0_128_S64x128)
          (arg10.view.readAt (Elt Ideal) (Rect.unit (s := S2048x512) (k0_off8 k) S512x128.size (k0_off8_inb k)).toLoadRect X10)
          (arg8.view.readAt (Elt Ideal) (Rect.unit (s := S8x4x128x512) (k0_off9 k) S1x1x128x512.size (k0_off9_inb k)).toLoadRect X8)
          (arg11.view.readAt (Elt Ideal) (Rect.unit (s := S256x512) ![0, 128] S256x128.size (by decide)).toLoadRect X11)
          (arg3.view.readAt (Elt Ideal) (Rect.unit (s := S1x2048x512) (k0_off10 k) S1x512x128.size (k0_off10_inb k)).toLoadRect X3)
          (arg5.view.readAt (Elt Ideal) (Rect.unit (s := S1x256x512) ![0, 0, 128] S1x256x128.size (by decide)).toLoadRect X5)⟩,
      ⟨Rect.unit (k0_off7 k) S1x64x128.size (k0_off7_inb k),
        attn (k0_pay1 v134 v135) (extractStridedSlice S64x128 ![0, 0] (qn v18 v22 (arg1.view.readAt (Elt Ideal) (Rect.unit (s := S1x2048x512) (k0_off3 k) S1x64x512.size (k0_off3_inb k)).toLoadRect X1)) slices_S64x512_o0_0_S64x128)
          (arg10.view.readAt (Elt Ideal) (Rect.unit (s := S2048x512) (k0_off4 k) S512x128.size (k0_off4_inb k)).toLoadRect X10)
          (arg8.view.readAt (Elt Ideal) (Rect.unit (s := S8x4x128x512) (k0_off5 k) S1x1x128x512.size (k0_off5_inb k)).toLoadRect X8)
          (arg11.view.readAt (Elt Ideal) (Rect.unit (s := S256x512) ![0, 0] S256x128.size (by decide)).toLoadRect X11)
          (arg3.view.readAt (Elt Ideal) (Rect.unit (s := S1x2048x512) (k0_off6 k) S1x512x128.size (k0_off6_inb k)).toLoadRect X3)
          (arg5.view.readAt (Elt Ideal) (Rect.unit (s := S1x256x512) ![0, 0, 0] S1x256x128.size (by decide)).toLoadRect X5)⟩] := by
  unfold trip_k0_t2; dsimp only
  rfl

end Cert.NattenTrips
-- ==== Proof.NattenKeys.lean ====
module

public import proofs.«01_k».proof.Proof.NattenTrips
public import Idealize.ShloMosaic.Lib.Pipeline.ValueKit

@[expose] public section

set_option maxRecDepth 16384

noncomputable section

namespace Cert.NattenKeys

open Cert.NattenIdeal Cert.NattenIdeal.Gen Cert.NattenForms Cert.NattenBlock Cert.NattenRun Cert.NattenTrips
open Idealize.ShloMosaic Idealize.ShloMosaic.TcCoe

/-- A load of a block of a buffer's contents reads them at the block's placement. -/
theorem read_block {s : Shape} {e : EltTy} (a : Memref sig .tc .vmem s e) (ha : a.IsWhole) (x : Vec Ideal s e) (off size : Fin s.rank → ℕ)
    (inb : ∀ b, off b + size b ≤ s.size b) (z : (Rect.unit off size inb).shape.Idx) :
    a.view.readAt (Elt Ideal) (Rect.unit off size inb).toLoadRect (ha.unread x) z = x ((Rect.unit off size inb).emb z) := by
  rw [View.readAt_apply, ha.read_unread]; rfl

/-- Which columns belong to the low head of their pair. -/
def low (c : Fin 512) : BitVec 1 := k0_pay60 (ix2 0 c)

theorem low_eq : ∀ c : Fin 512, low c = if c.val % 128 < 64 then 1#1 else 0#1 := by
  have h : ∀ c : Fin 512, low c = if c.val % 128 < 64 then 1#1 else 0#1 := by
    intro c
    unfold low
    pointwise [k0_pay60]
    revert c
    decide +kernel
  exact h

theorem off1 : ∀ k : Fin k0_t1_loop.trips, k0_off1 k = ![0, 256 * k.val, 0] := by decide +kernel
theorem off2 : ∀ k : Fin k0_t1_loop.trips, k0_off2 k = ![256 * k.val, 0] := by decide +kernel

/-- A row of 512 columns normalised head by head and weighted, at a column. -/
def headAt (x w : Fin 512 → EReal) (c : Fin 512) : EReal :=
  headRms x w low ⟨c.val / 128, by omega⟩ ⟨c.val % 128, by omega⟩

theorem headAt_col (x w : Fin 512 → EReal) (j : Fin 4) (l : Fin 128) : headAt x w (col j l) = headRms x w low j l := by
  unfold headAt
  congr 1
  · exact Fin.ext (by simp only [col]; omega)
  · exact Fin.ext (by simp only [col]; omega)

theorem eq_col (c : Fin 512) : ∃ j l, c = col j l :=
  ⟨⟨c.val / 128, by omega⟩, ⟨c.val % 128, by omega⟩, Fin.ext (by simp only [col]; omega)⟩

/-- A piece of the first loop is one of its trips' pieces. -/
theorem mem_trip (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole) (v19 : Vec Ideal S1x512 .f32) (X : BufTy.Contents (Elt Ideal) arg2.view.ty)
    (p : View.Piece (Elt Ideal) S2048x512 .bf16) : ∀ n, n ≤ k0_t1_loop.trips →
      p ∈ pb_k0_t1 (F := Ideal) Variants.none c none i arg1 harg1 arg2 harg2 arg3 harg3 arg4 harg4 arg5 harg5 arg6 harg6 arg7 harg7 arg8 harg8 arg9 harg9 arg10 harg10 arg11 harg11 v19 X n →
      ∃ k, p ∈ (trip_k0_t1 (F := Ideal) Variants.none c none i arg1 harg1 arg2 harg2 arg3 harg3 arg4 harg4 arg5 harg5 arg6 harg6 arg7 harg7 arg8 harg8 arg9 harg9 arg10 harg10 arg11 harg11 v19 X k).1
  | 0, _, h => absurd h (by rw [pb_k0_t1]; exact List.not_mem_nil)
  | n + 1, hn, h => by
    rw [pb_k0_t1_succ Variants.none c none i arg1 harg1 arg2 harg2 arg3 harg3 arg4 harg4 arg5 harg5 arg6 harg6 arg7 harg7 arg8 harg8 arg9 harg9 arg10 harg10 arg11 harg11 v19 X ⟨n, hn⟩] at h
    rcases List.mem_append.mp h with h | h
    · exact ⟨_, h⟩
    · exact mem_trip c i arg1 harg1 arg2 harg2 arg3 harg3 arg4 harg4 arg5 harg5 arg6 harg6 arg7 harg7 arg8 harg8 arg9 harg9 arg10 harg10 arg11 harg11 v19 X p n (Nat.le_of_succ_le hn) h

/-- What the first loop leaves in the key scratch: every row of the keys, normalised. -/
theorem keys_apply (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole) (v19 : Vec Ideal S1x512 .f32) (x1 : Vec Ideal S1x2048x512 .bf16) (n : Fin 2048) (cc : Fin 512) :
    View.canon (pb_k0_t1 (F := Ideal) Variants.none c none i arg1 harg1 arg2 harg2 arg3 harg3 arg4 harg4 arg5 harg5 arg6 harg6 arg7 harg7 arg8 harg8 arg9 harg9 arg10 harg10 arg11 harg11 v19 (harg2.unread x1) (Scf.trips 0#32 (Scalar.addi 0#32 8#32) 1#32)) (ix2 n cc)
      = headAt (fun c => x1 (ix3 0 n c)) (fun c => v19 (ix2 0 c)) cc := by
  refine View.canon_apply_of_pieces (S := S2048x512) (fun y : S2048x512.Idx => headAt (fun c => x1 (ix3 0 (y 0) c)) (fun c => v19 (ix2 0 c)) (y 1)) _ ?_ (ix2 n cc)
    (keys_cover c i arg1 harg1 arg2 harg2 arg3 harg3 arg4 harg4 arg5 harg5 arg6 harg6 arg7 harg7 arg8 harg8 arg9 harg9 arg10 harg10 arg11 harg11 v19 _ _)
  intro p hp x
  obtain ⟨k, hk⟩ := mem_trip c i arg1 harg1 arg2 harg2 arg3 harg3 arg4 harg4 arg5 harg5 arg6 harg6 arg7 harg7 arg8 harg8 arg9 harg9 arg10 harg10 arg11 harg11 v19 _ p _ le_rfl hp
  rw [trip1] at hk
  obtain rfl := List.mem_singleton.mp hk
  obtain ⟨w, cc, rfl⟩ : ∃ (w : Fin 256) (cc : Fin 512), x = ix2 w cc := ⟨x 0, x 1, by blk_ext⟩
  obtain ⟨j, l, rfl⟩ := eq_col cc
  have hkt : k.val < 8 := k.isLt
  have he : (Rect.unit (s := S2048x512) (k0_off2 k) S256x512.size (k0_off2_inb k)).emb (ix2 w (col j l)) = ix2 (⟨256 * k.val + w.val, by omega⟩ : Fin 2048) (col j l) := by
    blk_ext [off2 k]
  show kn _ _ _ (ix2 w (col j l)) = _
  rw [kn_apply, he]
  show _ = headAt (fun c => x1 (ix3 0 (⟨256 * k.val + w.val, by omega⟩ : Fin 2048) c)) _ (col j l)
  rw [headAt_col]
  have hx : ∀ cc : Fin 512, View.readAt (Elt Ideal) arg2.view (Rect.unit (s := S1x2048x512) (k0_off1 k) S1x256x512.size (k0_off1_inb k)).toLoadRect (harg2.unread x1) (ix3 0 w cc)
      = x1 (ix3 0 (⟨256 * k.val + w.val, by omega⟩ : Fin 2048) cc) := fun cc => by
    rw [read_block]
    congr 1
    blk_ext [off1 k]
  have hw : ∀ cc : Fin 512, k0_pay61 v19 (ix2 0 cc) = v19 (ix2 0 cc) := fun cc => by pointwise [k0_pay61]
  simp only [hx, hw]
  rfl

end Cert.NattenKeys
-- ==== Proof.NattenPairs.lean ====
module

public import proofs.«01_k».proof.Proof.NattenKeys

@[expose] public section

set_option maxRecDepth 16384

noncomputable section

namespace Cert.NattenPairs

open Cert.NattenIdeal Cert.NattenIdeal.Gen Cert.NattenForms Cert.NattenBlock Cert.NattenRun Cert.NattenTrips Cert.NattenKeys
open Idealize.ShloMosaic Idealize.ShloMosaic.TcCoe

/-- The first of the eight rows of image row `k`'s window. -/
def rs (k : ℕ) : ℕ := min (k - 4) 24

theorem rs_le (k : ℕ) : rs k ≤ 24 := min_le_right _ _

/-- Row `n` of the 512 rows of image row `k`'s window, among the batch's 2048. -/
abbrev win (k : Fin 32) (n : Fin 512) : Fin 2048 := ⟨64 * rs k.val + n.val, by have := rs_le k.val; omega⟩

/-- The bias table's case of an image row. -/
abbrev case (k : Fin 32) : Fin 8 := ⟨rs k.val + 7 - k.val, by unfold rs; omega⟩

theorem off3 : ∀ k : Fin k0_t2_loop.trips, k0_off3 k = ![0, 64 * k.val, 0] := by decide +kernel
theorem off4 : ∀ k : Fin k0_t2_loop.trips, k0_off4 k = ![64 * rs k.val, 0] := by decide +kernel
theorem off5 : ∀ k : Fin k0_t2_loop.trips, k0_off5 k = ![rs k.val + 7 - k.val, 0, 0, 0] := by decide +kernel
theorem off6 : ∀ k : Fin k0_t2_loop.trips, k0_off6 k = ![0, 64 * rs k.val, 0] := by decide +kernel
theorem off7 : ∀ k : Fin k0_t2_loop.trips, k0_off7 k = ![0, 64 * k.val, 0] := by decide +kernel
theorem off8 : ∀ k : Fin k0_t2_loop.trips, k0_off8 k = ![64 * rs k.val, 128] := by decide +kernel
theorem off9 : ∀ k : Fin k0_t2_loop.trips, k0_off9 k = ![rs k.val + 7 - k.val, 1, 0, 0] := by decide +kernel
theorem off10 : ∀ k : Fin k0_t2_loop.trips, k0_off10 k = ![0, 64 * rs k.val, 128] := by decide +kernel
theorem off11 : ∀ k : Fin k0_t2_loop.trips, k0_off11 k = ![0, 64 * k.val, 128] := by decide +kernel
theorem off12 : ∀ k : Fin k0_t2_loop.trips, k0_off12 k = ![64 * rs k.val, 256] := by decide +kernel
theorem off13 : ∀ k : Fin k0_t2_loop.trips, k0_off13 k = ![rs k.val + 7 - k.val, 2, 0, 0] := by decide +kernel
theorem off14 : ∀ k : Fin k0_t2_loop.trips, k0_off14 k = ![0, 64 * rs k.val, 256] := by decide +kernel
theorem off15 : ∀ k : Fin k0_t2_loop.trips, k0_off15 k = ![0, 64 * k.val, 256] := by decide +kernel
theorem off16 : ∀ k : Fin k0_t2_loop.trips, k0_off16 k = ![64 * rs k.val, 384] := by decide +kernel
theorem off17 : ∀ k : Fin k0_t2_loop.trips, k0_off17 k = ![rs k.val + 7 - k.val, 3, 0, 0] := by decide +kernel
theorem off18 : ∀ k : Fin k0_t2_loop.trips, k0_off18 k = ![0, 64 * rs k.val, 384] := by decide +kernel
theorem off19 : ∀ k : Fin k0_t2_loop.trips, k0_off19 k = ![0, 64 * k.val, 384] := by decide +kernel

/-- The lanes of a pair that are its low head's. -/
abbrev lo : IVec S64x128 1 := k0_pay1 (bodyRun.sl.v134) k0_pay78

theorem lo_eq (w : Fin 64) (l : Fin 128) : lo (ix2 w l) = if l.val < 64 then 1#1 else 0#1 := by
  unfold lo bodyRun.sl.v134
  pointwise [k0_pay1, k0_pay78]
  revert l
  decide +kernel

section Heads

variable (x0 : Vec Ideal S1x2048x512 .bf16) (x1 : Vec Ideal S1x2048x512 .bf16) (x2 : Vec Ideal S1x2048x512 .bf16) (x3 : Vec Ideal S1x256x512 .bf16) (x4 : Vec Ideal S1x256x512 .bf16) (x5 : Vec Ideal S1x512 .f32) (x6 : Vec Ideal S1x512 .f32) (x7 : Vec Ideal S8x4x128x512 .f32)

/-- The scaled normalised query of image row `k`, column `w`. -/
def qAt (k : Fin 32) (w : Fin 64) (c : Fin 512) : EReal :=
  headAt (fun c => x0 (ix3 0 ⟨64 * k.val + w.val, by omega⟩ c)) (fun c => x5 (ix2 0 c)) c * Ideal.ofBits .f32 0x3E000000#32

/-- The output of a head of pair `j` at image row `k`, column `w`. -/
def headOut (k : Fin 32) (w : Fin 64) (j : Fin 4) (hd : Fin 2) (d : Fin 64) : EReal :=
  attnRow (fun n => ∑ e, qAt x0 x5 k w (col j (lane hd e)) * headAt (fun c => x1 (ix3 0 (win k n) c)) (fun c => x6 (ix2 0 c)) (col j (lane hd e))
      + x7 (ix4 (case k) j ⟨64 * hd.val + w.val, by omega⟩ n))
    (fun n => ∑ e, qAt x0 x5 k w (col j (lane hd e)) * headAt (fun c => x3 (ix3 0 n c)) (fun c => x6 (ix2 0 c)) (col j (lane hd e)))
    (fun n => x2 (ix3 0 (win k n) (col j (lane hd d)))) (fun n => x4 (ix3 0 n (col j (lane hd d))))

/-- The output block's element at row `n`, column `c`. -/
def outAt (n : Fin 2048) (c : Fin 512) : EReal :=
  headOut x0 x1 x2 x3 x4 x5 x6 x7 ⟨n.val / 64, by omega⟩ ⟨n.val % 64, by omega⟩ ⟨c.val / 128, by omega⟩ ⟨c.val % 128 / 64, by omega⟩ ⟨c.val % 64, by omega⟩

theorem outAt_head (k : Fin 32) (w : Fin 64) (j : Fin 4) (hd : Fin 2) (d : Fin 64) :
    outAt x0 x1 x2 x3 x4 x5 x6 x7 ⟨64 * k.val + w.val, by omega⟩ (col j (lane hd d)) = headOut x0 x1 x2 x3 x4 x5 x6 x7 k w j hd d := by
  unfold outAt
  congr 1 <;> exact Fin.ext (by simp only [col, lane]; omega)

end Heads

/-- A piece of the second loop is one of its trips' pieces. -/
theorem mem_trip (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole) (v18 : IVec S1x512 1) (v22 : FVec Ideal S1x512 .f32) (v134 v135 : IVec S64x128 32)
    (X1 : BufTy.Contents (Elt Ideal) arg1.view.ty) (X3 : BufTy.Contents (Elt Ideal) arg3.view.ty) (X5 : BufTy.Contents (Elt Ideal) arg5.view.ty)
    (X8 : BufTy.Contents (Elt Ideal) arg8.view.ty) (X10 : BufTy.Contents (Elt Ideal) arg10.view.ty) (X11 : BufTy.Contents (Elt Ideal) arg11.view.ty)
    (p : View.Piece (Elt Ideal) S1x2048x512 .bf16) : ∀ n, n ≤ k0_t2_loop.trips →
      p ∈ pb_k0_t2 (F := Ideal) Variants.none c none i arg1 harg1 arg2 harg2 arg3 harg3 arg4 harg4 arg5 harg5 arg6 harg6 arg7 harg7 arg8 harg8 arg9 harg9 arg10 harg10 arg11 harg11 v18 v22 v134 v135 X1 X3 X5 X8 X10 X11 n →
      ∃ k, p ∈ (trip_k0_t2 (F := Ideal) Variants.none c none i arg1 harg1 arg2 harg2 arg3 harg3 arg4 harg4 arg5 harg5 arg6 harg6 arg7 harg7 arg8 harg8 arg9 harg9 arg10 harg10 arg11 harg11 v18 v22 v134 v135 X1 X3 X5 X8 X10 X11 k).1
  | 0, _, h => absurd h (by rw [pb_k0_t2]; exact List.not_mem_nil)
  | n + 1, hn, h => by
    rw [pb_k0_t2_succ Variants.none c none i arg1 harg1 arg2 harg2 arg3 harg3 arg4 harg4 arg5 harg5 arg6 harg6 arg7 harg7 arg8 harg8 arg9 harg9 arg10 harg10 arg11 harg11 v18 v22 v134 v135 X1 X3 X5 X8 X10 X11 ⟨n, hn⟩] at h
    rcases List.mem_append.mp h with h | h
    · exact ⟨_, h⟩
    · exact mem_trip c i arg1 harg1 arg2 harg2 arg3 harg3 arg4 harg4 arg5 harg5 arg6 harg6 arg7 harg7 arg8 harg8 arg9 harg9 arg10 harg10 arg11 harg11 v18 v22 v134 v135 X1 X3 X5 X8 X10 X11 p n (Nat.le_of_succ_le hn) h

/-- What the body leaves in the context keys' scratch. -/
theorem ctx_pieces (c : Dev nD) (arg4 : Memref sig .tc .vmem S1x256x512 .bf16) (harg4 : arg4.IsWhole) (arg7 : Memref sig .tc .vmem S1x512 .f32)
    (harg7 : arg7.IsWhole) (x3 : Vec Ideal S1x256x512 .bf16) (x6 : Vec Ideal S1x512 .f32) :
    bodyRun.sl.HS1_1 c arg4 harg4 arg7 harg7 x3 x6
      = [⟨Rect.unit (s := S256x512) ![0, 0] S256x512.size (by decide),
          kn k0_pay60 (k0_pay61 (arg7.view.readAt (Elt Ideal) (Rect.unit (s := S1x512) ![0, 0] S1x512.size (by decide)).toLoadRect (harg7.unread x6)))
            (arg4.view.readAt (Elt Ideal) (Rect.unit (s := S1x256x512) ![0, 0, 0] S1x256x512.size (by decide)).toLoadRect (harg4.unread x3))⟩] := rfl

/-- The pieces of the output's block are the second loop's. -/
theorem pieces_loop (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole)
    (x0 : Vec Ideal S1x2048x512 .bf16) (x1 : Vec Ideal S1x2048x512 .bf16) (x2 : Vec Ideal S1x2048x512 .bf16) (x3 : Vec Ideal S1x256x512 .bf16) (x4 : Vec Ideal S1x256x512 .bf16) (x5 : Vec Ideal S1x512 .f32) (x6 : Vec Ideal S1x512 .f32) (x7 : Vec Ideal S8x4x128x512 .f32) :
    pieces (F := Ideal) c i arg1 harg1 arg2 harg2 arg3 harg3 arg4 harg4 arg5 harg5 arg6 harg6 arg7 harg7 arg8 harg8 arg9 harg9 arg10 harg10 arg11 harg11 x0 x1 x2 x3 x4 x5 x6 x7
      = pb_k0_t2 (F := Ideal) Variants.none c none i arg1 harg1 arg2 harg2 arg3 harg3 arg4 harg4 arg5 harg5 arg6 harg6 arg7 harg7 arg8 harg8 arg9 harg9 arg10 harg10 arg11 harg11 k0_pay60
          (k0_pay62 (arg6.view.readAt (Elt Ideal) (Rect.unit (s := S1x512) ![0, 0] S1x512.size (by decide)).toLoadRect (harg6.unread x5)))
          bodyRun.sl.v134 k0_pay78 (harg1.unread x0) (harg3.unread x2) (harg5.unread x4) (harg8.unread x7)
          (arg10.view.writes (Elt Ideal) arg10.view.junk (pb_k0_t1 (F := Ideal) Variants.none c none i arg1 harg1 arg2 harg2 arg3 harg3 arg4 harg4 arg5 harg5 arg6 harg6 arg7 harg7 arg8 harg8 arg9 harg9 arg10 harg10 arg11 harg11
            (arg7.view.readAt (Elt Ideal) (Rect.unit (s := S1x512) ![0, 0] S1x512.size (by decide)).toLoadRect (harg7.unread x6)) (harg2.unread x1) (Scf.trips 0#32 (Scalar.addi 0#32 8#32) 1#32)))
          (arg11.view.writes (Elt Ideal) arg11.view.junk (bodyRun.sl.HS1_1 c arg4 harg4 arg7 harg7 x3 x6)) (Scf.trips 0#32 (Scalar.addi 0#32 32#32) 1#32) := by
  unfold pieces bodyRun; dsimp only
  rfl

end Cert.NattenPairs
-- ==== Proof.NattenOut.lean ====
module

public import proofs.«01_k».proof.Proof.NattenPairs

@[expose] public section

set_option maxRecDepth 16384

noncomputable section

namespace Cert.NattenOut

open Cert.NattenIdeal Cert.NattenIdeal.Gen Cert.NattenForms Cert.NattenBlock Cert.NattenRun Cert.NattenTrips Cert.NattenKeys Cert.NattenPairs
open Idealize.ShloMosaic Idealize.ShloMosaic.TcCoe

theorem read_row (a : Memref sig .tc .vmem S1x512 .f32) (ha : a.IsWhole) (x : Vec Ideal S1x512 .f32) (c : Fin 512) :
    a.view.readAt (Elt Ideal) (Rect.unit (s := S1x512) ![0, 0] S1x512.size (by decide)).toLoadRect (ha.unread x) (ix2 0 c) = x (ix2 0 c) := by
  rw [read_block]
  congr 1
  blk_ext []

theorem weight61 (x : Vec Ideal S1x512 .f32) (c : Fin 512) : k0_pay61 x (ix2 0 c) = x (ix2 0 c) := by pointwise [k0_pay61]
theorem weight62 (x : Vec Ideal S1x512 .f32) (c : Fin 512) : k0_pay62 x (ix2 0 c) = x (ix2 0 c) := by pointwise [k0_pay62]

/-- The context keys a pair reads from their scratch. -/
theorem ctx_apply (c : Dev nD) (arg4 : Memref sig .tc .vmem S1x256x512 .bf16) (harg4 : arg4.IsWhole) (arg7 : Memref sig .tc .vmem S1x512 .f32)
    (harg7 : arg7.IsWhole) (arg11 : Memref sig .tc .vmem S256x512 .bf16) (x3 : Vec Ideal S1x256x512 .bf16) (x6 : Vec Ideal S1x512 .f32) (j : Fin 4) (off : Fin 2 → ℕ) (ho : off = ![0, 128 * j.val])
    (inb : ∀ b, off b + S256x128.size b ≤ S256x512.size b) (n : Fin 256) (l : Fin 128) :
    arg11.view.readAt (Elt Ideal) (Rect.unit (s := S256x512) off S256x128.size inb).toLoadRect (arg11.view.writes (Elt Ideal) arg11.view.junk (bodyRun.sl.HS1_1 c arg4 harg4 arg7 harg7 x3 x6)) (ix2 n l)
      = headAt (fun c => x3 (ix3 0 n c)) (fun c => x6 (ix2 0 c)) (col j l) := by
  rw [View.readAt_writes_junk_eq_canon]
  have he : (Rect.unit (s := S256x512) off S256x128.size inb).emb (ix2 n l) = ix2 n (col j l) := by
    subst ho
    blk_ext []
  show View.canon _ ((Rect.unit (s := S256x512) off S256x128.size inb).emb (ix2 n l)) = _
  rw [he, ctx_pieces, View.canon_cons_unit_zero (by funext b; fin_cases b <;> rfl)]
  rw [kn_apply, headAt_col]
  have hx : ∀ cc : Fin 512, arg4.view.readAt (Elt Ideal) (Rect.unit (s := S1x256x512) ![0, 0, 0] S1x256x512.size (by decide)).toLoadRect (harg4.unread x3) (ix3 0 n cc)
      = x3 (ix3 0 n cc) := fun cc => by
    rw [read_block]
    congr 1
    blk_ext []
  simp only [hx, weight61]
  exact congrArg (fun w => headRms (fun c => x3 (ix3 0 n c)) w low j l) (funext fun c => read_row arg7 harg7 x6 c)

/-- The window's keys a pair reads from their scratch. -/
theorem win_apply (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole)
    (x0 : Vec Ideal S1x2048x512 .bf16) (x1 : Vec Ideal S1x2048x512 .bf16) (x2 : Vec Ideal S1x2048x512 .bf16) (x3 : Vec Ideal S1x256x512 .bf16) (x4 : Vec Ideal S1x256x512 .bf16) (x5 : Vec Ideal S1x512 .f32) (x6 : Vec Ideal S1x512 .f32) (x7 : Vec Ideal S8x4x128x512 .f32) (k : Fin 32) (j : Fin 4) (off : Fin 2 → ℕ) (ho : off = ![64 * rs k.val, 128 * j.val])
    (inb : ∀ b, off b + S512x128.size b ≤ S2048x512.size b) (n : Fin 512) (l : Fin 128) :
    arg10.view.readAt (Elt Ideal) (Rect.unit (s := S2048x512) off S512x128.size inb).toLoadRect (arg10.view.writes (Elt Ideal) arg10.view.junk (pb_k0_t1 (F := Ideal) Variants.none c none i arg1 harg1 arg2 harg2 arg3 harg3 arg4 harg4 arg5 harg5 arg6 harg6 arg7 harg7 arg8 harg8 arg9 harg9 arg10 harg10 arg11 harg11 (arg7.view.readAt (Elt Ideal) (Rect.unit (s := S1x512) ![0, 0] S1x512.size (by decide)).toLoadRect (harg7.unread x6)) (harg2.unread x1) (Scf.trips 0#32 (Scalar.addi 0#32 8#32) 1#32))) (ix2 n l)
      = headAt (fun c => x1 (ix3 0 (win k n) c)) (fun c => x6 (ix2 0 c)) (col j l) := by
  rw [View.readAt_writes_junk_eq_canon]
  have he : (Rect.unit (s := S2048x512) off S512x128.size inb).emb (ix2 n l) = ix2 (win k n) (col j l) := by
    subst ho
    blk_ext []
  show View.canon _ ((Rect.unit (s := S2048x512) off S512x128.size inb).emb (ix2 n l)) = _
  rw [he, keys_apply]
  exact congrArg (fun w => headAt (fun c => x1 (ix3 0 (win k n) c)) w (col j l)) (funext fun c => read_row arg7 harg7 x6 c)

theorem slice0 (q : FVec Ideal S64x512 .f32) (w : Fin 64) (l : Fin 128) : extractStridedSlice S64x128 ![0, 0] q (by decide) (ix2 w l) = q (ix2 w (col 0 l)) := by
  pointwise []
  simp [col]
theorem slice1 (q : FVec Ideal S64x512 .f32) (w : Fin 64) (l : Fin 128) : extractStridedSlice S64x128 ![0, 128] q (by decide) (ix2 w l) = q (ix2 w (col 1 l)) := by
  pointwise []
  rfl
theorem slice2 (q : FVec Ideal S64x512 .f32) (w : Fin 64) (l : Fin 128) : extractStridedSlice S64x128 ![0, 256] q (by decide) (ix2 w l) = q (ix2 w (col 2 l)) := by
  pointwise []
  rfl
theorem slice3 (q : FVec Ideal S64x512 .f32) (w : Fin 64) (l : Fin 128) : extractStridedSlice S64x128 ![0, 384] q (by decide) (ix2 w l) = q (ix2 w (col 3 l)) := by
  pointwise []
  rfl

/-- A pair's piece is the output block's elements at its place. -/
theorem piece (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole)
    (x0 : Vec Ideal S1x2048x512 .bf16) (x1 : Vec Ideal S1x2048x512 .bf16) (x2 : Vec Ideal S1x2048x512 .bf16) (x3 : Vec Ideal S1x256x512 .bf16) (x4 : Vec Ideal S1x256x512 .bf16) (x5 : Vec Ideal S1x512 .f32) (x6 : Vec Ideal S1x512 .f32) (x7 : Vec Ideal S8x4x128x512 .f32) (k : Fin 32) (j : Fin 4)
    (oK : Fin 2 → ℕ) (hK : oK = ![64 * rs k.val, 128 * j.val]) (inbK : ∀ b, oK b + S512x128.size b ≤ S2048x512.size b)
    (oB : Fin 4 → ℕ) (hB : oB = ![rs k.val + 7 - k.val, j.val, 0, 0]) (inbB : ∀ b, oB b + S1x1x128x512.size b ≤ S8x4x128x512.size b)
    (oV : Fin 3 → ℕ) (hV : oV = ![0, 64 * rs k.val, 128 * j.val]) (inbV : ∀ b, oV b + S1x512x128.size b ≤ S1x2048x512.size b)
    (oC : Fin 2 → ℕ) (hC : oC = ![0, 128 * j.val]) (inbC : ∀ b, oC b + S256x128.size b ≤ S256x512.size b)
    (oW : Fin 3 → ℕ) (hW : oW = ![0, 0, 128 * j.val]) (inbW : ∀ b, oW b + S1x256x128.size b ≤ S1x256x512.size b)
    (oO : Fin 3 → ℕ) (hO : oO = ![0, 64 * k.val, 128 * j.val]) (inbO : ∀ b, oO b + S1x64x128.size b ≤ S1x2048x512.size b)
    (oQ : Fin 3 → ℕ) (hQ : oQ = ![0, 64 * k.val, 0]) (inbQ : ∀ b, oQ b + S1x64x512.size b ≤ S1x2048x512.size b)
    (q : FVec Ideal S64x128 .f32)
    (hq : ∀ w l, q (ix2 w l) = qn k0_pay60 (k0_pay62 (arg6.view.readAt (Elt Ideal) (Rect.unit (s := S1x512) ![0, 0] S1x512.size (by decide)).toLoadRect (harg6.unread x5))) (arg1.view.readAt (Elt Ideal) (Rect.unit (s := S1x2048x512) oQ S1x64x512.size inbQ).toLoadRect (harg1.unread x0)) (ix2 w (col j l)))
    (x : S1x64x128.Idx) :
    attn lo q (arg10.view.readAt (Elt Ideal) (Rect.unit (s := S2048x512) oK S512x128.size inbK).toLoadRect (arg10.view.writes (Elt Ideal) arg10.view.junk (pb_k0_t1 (F := Ideal) Variants.none c none i arg1 harg1 arg2 harg2 arg3 harg3 arg4 harg4 arg5 harg5 arg6 harg6 arg7 harg7 arg8 harg8 arg9 harg9 arg10 harg10 arg11 harg11 (arg7.view.readAt (Elt Ideal) (Rect.unit (s := S1x512) ![0, 0] S1x512.size (by decide)).toLoadRect (harg7.unread x6)) (harg2.unread x1) (Scf.trips 0#32 (Scalar.addi 0#32 8#32) 1#32))))
        (arg8.view.readAt (Elt Ideal) (Rect.unit (s := S8x4x128x512) oB S1x1x128x512.size inbB).toLoadRect (harg8.unread x7))
        (arg11.view.readAt (Elt Ideal) (Rect.unit (s := S256x512) oC S256x128.size inbC).toLoadRect (arg11.view.writes (Elt Ideal) arg11.view.junk (bodyRun.sl.HS1_1 c arg4 harg4 arg7 harg7 x3 x6)))
        (arg3.view.readAt (Elt Ideal) (Rect.unit (s := S1x2048x512) oV S1x512x128.size inbV).toLoadRect (harg3.unread x2))
        (arg5.view.readAt (Elt Ideal) (Rect.unit (s := S1x256x512) oW S1x256x128.size inbW).toLoadRect (harg5.unread x4)) x
      = outAt x0 x1 x2 x3 x4 x5 x6 x7 ((Rect.unit (s := S1x2048x512) oO S1x64x128.size inbO).emb x 1) ((Rect.unit (s := S1x2048x512) oO S1x64x128.size inbO).emb x 2) := by
  obtain ⟨w, l, rfl⟩ : ∃ (w : Fin 64) (l : Fin 128), x = ix3 0 w l := ⟨x 1, x 2, by blk_ext⟩
  obtain ⟨hd, d, rfl⟩ : ∃ (hd : Fin 2) (d : Fin 64), l = lane hd d := ⟨⟨l.val / 64, by omega⟩, ⟨l.val % 64, by omega⟩, Fin.ext (by simp only [lane]; omega)⟩
  have he : (Rect.unit (s := S1x2048x512) oO S1x64x128.size inbO).emb (ix3 0 w (lane hd d)) = ix3 0 (⟨64 * k.val + w.val, by omega⟩ : Fin 2048) (col j (lane hd d)) := by
    subst hO
    blk_ext []
  rw [he]
  show _ = outAt x0 x1 x2 x3 x4 x5 x6 x7 (⟨64 * k.val + w.val, by omega⟩ : Fin 2048) (col j (lane hd d))
  rw [outAt_head, attn_head lo_eq]
  have hQ' : ∀ l, q (ix2 w l) = qAt x0 x5 k w (col j l) := fun l => by
    rw [hq, qn_apply]
    unfold qAt
    rw [headAt_col]
    have hx : ∀ cc : Fin 512, arg1.view.readAt (Elt Ideal) (Rect.unit (s := S1x2048x512) oQ S1x64x512.size inbQ).toLoadRect (harg1.unread x0) (ix3 0 w cc)
        = x0 (ix3 0 (⟨64 * k.val + w.val, by omega⟩ : Fin 2048) cc) := fun cc => by
      rw [read_block]
      congr 1
      subst hQ
      blk_ext []
    simp only [hx, weight62]
    exact congrArg (fun v => headRms (fun c => x0 (ix3 0 (⟨64 * k.val + w.val, by omega⟩ : Fin 2048) c)) v low j l * Ideal.ofBits .f32 0x3E000000#32) (funext fun c => read_row arg6 harg6 x5 c)
  have hb : ∀ n, arg8.view.readAt (Elt Ideal) (Rect.unit (s := S8x4x128x512) oB S1x1x128x512.size inbB).toLoadRect (harg8.unread x7) (ix4 0 0 ⟨64 * hd.val + w.val, by omega⟩ n)
      = x7 (ix4 (case k) j ⟨64 * hd.val + w.val, by omega⟩ n) := fun n => by
    rw [read_block]
    congr 1
    subst hB
    blk_ext []
  have hv : ∀ n, arg3.view.readAt (Elt Ideal) (Rect.unit (s := S1x2048x512) oV S1x512x128.size inbV).toLoadRect (harg3.unread x2) (ix3 0 n (lane hd d))
      = x2 (ix3 0 (win k n) (col j (lane hd d))) := fun n => by
    rw [read_block]
    congr 1
    subst hV
    blk_ext []
  have hvc : ∀ n, arg5.view.readAt (Elt Ideal) (Rect.unit (s := S1x256x512) oW S1x256x128.size inbW).toLoadRect (harg5.unread x4) (ix3 0 n (lane hd d))
      = x4 (ix3 0 n (col j (lane hd d))) := fun n => by
    rw [read_block]
    congr 1
    subst hW
    blk_ext []
  unfold headOut
  congr 1
  · funext n
    exact congrArg₂ (· + ·) (Finset.sum_congr rfl fun e _ => congrArg₂ (· * ·) (hQ' _) (win_apply c i arg1 harg1 arg2 harg2 arg3 harg3 arg4 harg4 arg5 harg5 arg6 harg6 arg7 harg7 arg8 harg8 arg9 harg9 arg10 harg10 arg11 harg11 x0 x1 x2 x3 x4 x5 x6 x7 k j oK hK inbK n (lane hd e))) (hb n)
  · funext n
    exact Finset.sum_congr rfl fun e _ => congrArg₂ (· * ·) (hQ' _) (ctx_apply c arg4 harg4 arg7 harg7 arg11 x3 x6 j oC hC inbC n (lane hd e))
  · exact funext hv
  · exact funext hvc

/-- The output block of a grid point, element by element. -/
theorem outBlock_apply (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x4x128x512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S256x512 .bf16) (harg11 : arg11.IsWhole)
    (x0 : Vec Ideal S1x2048x512 .bf16) (x1 : Vec Ideal S1x2048x512 .bf16) (x2 : Vec Ideal S1x2048x512 .bf16) (x3 : Vec Ideal S1x256x512 .bf16) (x4 : Vec Ideal S1x256x512 .bf16) (x5 : Vec Ideal S1x512 .f32) (x6 : Vec Ideal S1x512 .f32) (x7 : Vec Ideal S8x4x128x512 .f32) (n : Fin 2048) (cc : Fin 512) :
    outBlock (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix3 0 n cc) = outAt x0 x1 x2 x3 x4 x5 x6 x7 n cc := by
  unfold outBlock
  rw [View.read_writes_junk_apply_eq_canon]
  refine View.canon_apply_of_pieces (S := S1x2048x512) (fun y : S1x2048x512.Idx => outAt x0 x1 x2 x3 x4 x5 x6 x7 (y 1) (y 2)) _ ?_ (ix3 0 n cc)
    (pieces_cover c i arg1 harg1 arg2 harg2 arg3 harg3 arg4 harg4 arg5 harg5 arg6 harg6 arg7 harg7 arg8 harg8 arg9 harg9 arg10 harg10 arg11 harg11 x0 x1 x2 x3 x4 x5 x6 x7 _)
  intro p hp x
  rw [pieces_loop] at hp
  obtain ⟨k, hk⟩ := NattenPairs.mem_trip c i arg1 harg1 arg2 harg2 arg3 harg3 arg4 harg4 arg5 harg5 arg6 harg6 arg7 harg7 arg8 harg8 arg9 harg9 arg10 harg10 arg11 harg11 _ _ _ _ _ _ _ _ _ _ p _ le_rfl hp
  rw [trip2] at hk
  rcases List.mem_cons.mp hk with rfl | hk
  · exact piece c i arg1 harg1 arg2 harg2 arg3 harg3 arg4 harg4 arg5 harg5 arg6 harg6 arg7 harg7 arg8 harg8 arg9 harg9 arg10 harg10 arg11 harg11 x0 x1 x2 x3 x4 x5 x6 x7 k 3 _ (off16 k) (k0_off16_inb k) _ (off17 k) (k0_off17_inb k) _ (off18 k) (k0_off18_inb k) ![0, 384] rfl (by decide) ![0, 0, 384] rfl (by decide) _ (off19 k) (k0_off19_inb k) _ (off3 k) (k0_off3_inb k) _ (fun w l => slice3 _ w l) x
  rcases List.mem_cons.mp hk with rfl | hk
  · exact piece c i arg1 harg1 arg2 harg2 arg3 harg3 arg4 harg4 arg5 harg5 arg6 harg6 arg7 harg7 arg8 harg8 arg9 harg9 arg10 harg10 arg11 harg11 x0 x1 x2 x3 x4 x5 x6 x7 k 2 _ (off12 k) (k0_off12_inb k) _ (off13 k) (k0_off13_inb k) _ (off14 k) (k0_off14_inb k) ![0, 256] rfl (by decide) ![0, 0, 256] rfl (by decide) _ (off15 k) (k0_off15_inb k) _ (off3 k) (k0_off3_inb k) _ (fun w l => slice2 _ w l) x
  rcases List.mem_cons.mp hk with rfl | hk
  · exact piece c i arg1 harg1 arg2 harg2 arg3 harg3 arg4 harg4 arg5 harg5 arg6 harg6 arg7 harg7 arg8 harg8 arg9 harg9 arg10 harg10 arg11 harg11 x0 x1 x2 x3 x4 x5 x6 x7 k 1 _ (off8 k) (k0_off8_inb k) _ (off9 k) (k0_off9_inb k) _ (off10 k) (k0_off10_inb k) ![0, 128] rfl (by decide) ![0, 0, 128] rfl (by decide) _ (off11 k) (k0_off11_inb k) _ (off3 k) (k0_off3_inb k) _ (fun w l => slice1 _ w l) x
  obtain rfl := List.mem_singleton.mp hk
  exact piece c i arg1 harg1 arg2 harg2 arg3 harg3 arg4 harg4 arg5 harg5 arg6 harg6 arg7 harg7 arg8 harg8 arg9 harg9 arg10 harg10 arg11 harg11 x0 x1 x2 x3 x4 x5 x6 x7 k 0 _ (off4 k) (k0_off4_inb k) _ (off5 k) (k0_off5_inb k) _ (off6 k) (k0_off6_inb k) ![0, 0] rfl (by decide) ![0, 0, 0] rfl (by decide) _ (off7 k) (k0_off7_inb k) _ (off3 k) (k0_off3_inb k) _ (fun w l => slice0 _ w l) x

end Cert.NattenOut
-- ==== Proof.NattenHost.lean ====
/-
  What the kernel's host code prepares: the two weights repeated for each head, and the bias of a window for
  each of the eight ways a window can sit over its query's row.
-/
module

public import proofs.«01_k».proof.Proof.Gen.NattenIdeal.Frame.Runs
public import Idealize.ShloMosaic.Lib.Pointwise
public import Idealize.ShloMosaic.Lib.Pipeline.ValueKit

@[expose] public section

set_option maxRecDepth 16384

noncomputable section

namespace Cert.NattenHost

open Cert.NattenIdeal Cert.NattenIdeal.Gen Idealize.ShloMosaic Idealize.ShloMosaic.TcCoe
open Idealize.SL.Sem
open Idealize.ShloMosaic.Pipeline (Dat)

variable (m : (ℓ : Loc nD τ sig) → Buf (Elt Ideal) ℓ)

/-- A weight of one head's columns, repeated for the eight heads. -/
def heads (x : FVec Ideal S1x64 .f32) : FVec Ideal S1x512 .f32 :=
  broadcastInDim S1x512 ![1] bcast_S512_S1x512_1
    (shapeCast S512 (broadcastInDim S8x64 ![0, 1] bcast_S1x64_S8x64_0_1
      (shapeCast S1x64 (shapeCast S64 x shapeCasts_S1x64_S64) shapeCasts_S64_S1x64)) shapeCasts_S8x64_S512)

/-- The bias by relative row, for every pair of a query's column and a window's column. -/
def colT (x : FVec Ideal S1x8x15x31 .f32) : FVec Ideal S8x15x64x64 .f32 :=
  Host.gather gather_S8x15x31_S64x64x1_S8x15x64x64_01_2_n_n_2_2_8151 (shapeCast S8x15x31 x shapeCasts_S1x8x15x31_S8x15x31)
    (broadcastInDim S64x64x1 ![0, 1] bcast_S64x64_S64x64x1_0_1
      (select (constantI S64x64 1 0#1)
        (addi (fun i => lit0 (S64x64.rowMajor i)) (broadcastInDim S64x64 ![] bcast_S_S64x64 (constantI S_ 32 31#32)))
        (fun i => lit0 (S64x64.rowMajor i))))

/-- The bias of a window whose rows are at the relative rows `dr`, −∞ at the columns `va` leaves out. -/
def caseT (dr : IVec S8 32) (va : IVec S64x64 1) (g : FVec Ideal S8x15x64x64 .f32) : FVec Ideal S8x64x8x64 .f32 :=
  select (broadcastInDim S8x64x8x64 ![0, 1, 2, 3] bcast_S1x64x1x64_S8x64x8x64_0_1_2_3
      (broadcastInDim S1x64x1x64 ![1, 3] bcast_S64x64_S1x64x1x64_1_3 va))
    (transpose S8x64x8x64 [0, 2, 1, 3]
      (Host.gather gather_S8x15x64x64_S8x1_S8x8x64x64_023_1_n_n_1_1_816464 g
        (broadcastInDim S8x1 ![0] bcast_S8_S8x1_0
          (select (constantI S8 1 0#1) (addi dr (broadcastInDim S8 ![] bcast_S_S8 (constantI S_ 32 15#32))) dr)))
      transposes_S8x8x64x64_S8x64x8x64_0_2_1_3)
    (broadcastInDim S8x64x8x64 ![] bcast_S_S8x64x8x64 (id (constant S_ .f32 0xFF800000#32)))

/-- One case's bias, heads in pairs. -/
def slabT (y : FVec Ideal S8x64x8x64 .f32) : FVec Ideal S1x4x128x512 .f32 :=
  broadcastInDim S1x4x128x512 ![1, 2, 3] bcast_S4x128x512_S1x4x128x512_1_2_3 (shapeCast S4x128x512 y shapeCasts_S8x64x8x64_S4x128x512)

/-- Eight slabs, one above the other. -/
def stack8 (y0 y1 y2 y3 y4 y5 y6 y7 : FVec Ideal S1x4x128x512 .f32) : FVec Ideal S8x4x128x512 .f32 :=
  concatenate S8x4x128x512 0
    [⟨S1x4x128x512, y0⟩, ⟨S1x4x128x512, y1⟩, ⟨S1x4x128x512, y2⟩, ⟨S1x4x128x512, y3⟩, ⟨S1x4x128x512, y4⟩, ⟨S1x4x128x512, y5⟩,
     ⟨S1x4x128x512, y6⟩, ⟨S1x4x128x512, y7⟩]
    concatenates_S1x4x128x512_S1x4x128x512_S1x4x128x512_S1x4x128x512_S1x4x128x512_S1x4x128x512_S1x4x128x512_S1x4x128x512_S8x4x128x512_d0

/-- The eight cases, one above the other. -/
def cases (x : FVec Ideal S1x8x15x31 .f32) : FVec Ideal S8x4x128x512 .f32 :=
  stack8 (slabT (caseT (fun i => lit1 (S8.rowMajor i)) (fun i => lit2 (S64x64.rowMajor i)) (colT x)))
    (slabT (caseT (fun i => lit3 (S8.rowMajor i)) (fun i => lit4 (S64x64.rowMajor i)) (colT x)))
    (slabT (caseT (fun i => lit5 (S8.rowMajor i)) (fun i => lit6 (S64x64.rowMajor i)) (colT x)))
    (slabT (caseT (fun i => lit7 (S8.rowMajor i)) (fun i => lit8 (S64x64.rowMajor i)) (colT x)))
    (slabT (caseT (fun i => lit9 (S8.rowMajor i)) (fun i => lit10 (S64x64.rowMajor i)) (colT x)))
    (slabT (caseT (fun i => lit11 (S8.rowMajor i)) (fun i => lit12 (S64x64.rowMajor i)) (colT x)))
    (slabT (caseT (fun i => lit13 (S8.rowMajor i)) (fun i => lit14 (S64x64.rowMajor i)) (colT x)))
    (slabT (caseT (fun i => lit15 (S8.rowMajor i)) (fun i => lit16 (S64x64.rowMajor i)) (colT x)))

theorem V_v91 (c : Dev nD) : V m c main_v91 = heads (m ((c : Thread nD τ).loc main_arg2)) := by
  unfold V
  simp only [hostOps0, hostOps0_1, hostOps0_2, hostOps0_3, hostOps0_4, hostOps0_5, hostOps0_6, hostOps0_7, hostOps0_8, hostOps0_9,
     hostOps0_10, hostOps0_11, hostOps0_12, hostOps0_13, hostOps0_14, hostOps0_15, hostOps0_16, List.flatten_cons, List.flatten_nil, List.append_nil, List.cons_append, List.nil_append]
  after_results
  rfl

theorem V_v96 (c : Dev nD) : V m c main_v96 = heads (m ((c : Thread nD τ).loc main_arg3)) := by
  unfold V
  simp only [hostOps0, hostOps0_1, hostOps0_2, hostOps0_3, hostOps0_4, hostOps0_5, hostOps0_6, hostOps0_7, hostOps0_8, hostOps0_9,
     hostOps0_10, hostOps0_11, hostOps0_12, hostOps0_13, hostOps0_14, hostOps0_15, hostOps0_16, List.flatten_cons, List.flatten_nil, List.append_nil, List.cons_append, List.nil_append]
  after_results
  rfl

/-- What the host has computed when it comes to put the cases together. -/
abbrev G (c : Dev nD) : Valuation τ sig (Elt Ideal) :=
  StableHlo.after (List.flatten [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15]
    ++ List.take 9 hostOps0_16) (fun b => m (c, b))

/-- Two lines of operations, one after the other. -/
theorem after_both (k l : List (HloOp τ sig (Elt Ideal))) (S : Valuation τ sig (Elt Ideal)) :
    StableHlo.after (k ++ l) S = StableHlo.after l (StableHlo.after k S) := by
  induction k generalizing S with
  | nil => rfl
  | cons o k ih => exact ih _

set_option maxHeartbeats 2000000 in
/-- The eight cases' biases when the host comes to put them together. -/
theorem G_cases (c : Dev nD) :
    G m c (Proc.devRef .tc main_v78) = (slabT (caseT (fun i => lit1 (S8.rowMajor i)) (fun i => lit2 (S64x64.rowMajor i)) (colT (m ((c : Thread nD τ).loc main_arg4)))))
     ∧ G m c (Proc.devRef .tc main_v79) = (slabT (caseT (fun i => lit3 (S8.rowMajor i)) (fun i => lit4 (S64x64.rowMajor i)) (colT (m ((c : Thread nD τ).loc main_arg4)))))
     ∧ G m c (Proc.devRef .tc main_v80) = (slabT (caseT (fun i => lit5 (S8.rowMajor i)) (fun i => lit6 (S64x64.rowMajor i)) (colT (m ((c : Thread nD τ).loc main_arg4)))))
     ∧ G m c (Proc.devRef .tc main_v81) = (slabT (caseT (fun i => lit7 (S8.rowMajor i)) (fun i => lit8 (S64x64.rowMajor i)) (colT (m ((c : Thread nD τ).loc main_arg4)))))
     ∧ G m c (Proc.devRef .tc main_v82) = (slabT (caseT (fun i => lit9 (S8.rowMajor i)) (fun i => lit10 (S64x64.rowMajor i)) (colT (m ((c : Thread nD τ).loc main_arg4)))))
     ∧ G m c (Proc.devRef .tc main_v83) = (slabT (caseT (fun i => lit11 (S8.rowMajor i)) (fun i => lit12 (S64x64.rowMajor i)) (colT (m ((c : Thread nD τ).loc main_arg4)))))
     ∧ G m c (Proc.devRef .tc main_v84) = (slabT (caseT (fun i => lit13 (S8.rowMajor i)) (fun i => lit14 (S64x64.rowMajor i)) (colT (m ((c : Thread nD τ).loc main_arg4)))))
     ∧ G m c (Proc.devRef .tc main_v85) = (slabT (caseT (fun i => lit15 (S8.rowMajor i)) (fun i => lit16 (S64x64.rowMajor i)) (colT (m ((c : Thread nD τ).loc main_arg4)))))
     := by
  refine ⟨?_, ?_, ?_, ?_, ?_, ?_, ?_, ?_⟩ <;> (
    unfold G
    simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
      List.flatten_nil, List.append_nil, List.cons_append, List.nil_append, List.take_succ_cons, List.take_zero]
    after_results
    rfl)

theorem V_v86 (c : Dev nD) : V m c main_v86 = cases (m ((c : Thread nD τ).loc main_arg4)) := by
  have hg := G_cases m c
  unfold G at hg
  show StableHlo.after ((List.flatten [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15]
    ++ List.take 9 hostOps0_16) ++ List.drop 9 hostOps0_16) _ _ = _
  rw [after_both]
  generalize StableHlo.after (List.flatten [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15]
    ++ List.take 9 hostOps0_16) (fun b => m (c, b)) = S at hg ⊢
  obtain ⟨g0, g1, g2, g3, g4, g5, g6, g7⟩ := hg
  simp only [hostOps0_16, List.drop_succ_cons, List.drop_zero]
  after_results
  show stack8 (S (Proc.devRef .tc main_v78)) (S (Proc.devRef .tc main_v79)) (S (Proc.devRef .tc main_v80)) (S (Proc.devRef .tc main_v81))
    (S (Proc.devRef .tc main_v82)) (S (Proc.devRef .tc main_v83)) (S (Proc.devRef .tc main_v84)) (S (Proc.devRef .tc main_v85)) = _
  rw [g0, g1, g2, g3, g4, g5, g6, g7]
  rfl

end Cert.NattenHost
-- ==== Proof.NattenLits.lean ====
/-
  The host's gathers and literal tables, read at coordinates.
-/
module

public import proofs.«01_k».proof.Proof.Gen.NattenIdeal.Launch
public import Idealize.ShloMosaic.Lib.Pointwise

@[expose] public section

set_option maxRecDepth 16384

noncomputable section

namespace Cert.NattenHost

open Cert.NattenIdeal Cert.NattenIdeal.Gen Idealize.ShloMosaic

section
variable {α : Type}

/-- The kernel's table of bias columns: one relative column offset per pair of columns. -/
theorem tab_cols (x : S8x15x31.Idx → α) (idx : IVec S64x64x1 32) (h : Fin 8) (r : Fin 15) (a : Fin 64) (b : Fin 64) :
    Host.gather gather_S8x15x31_S64x64x1_S8x15x64x64_01_2_n_n_2_2_8151 x idx (ix4 h r a b)
      = x (ix3 h r ⟨min (idx (ix3 a b 0)).toInt.toNat 30, by omega⟩) := by
  unfold Host.gather
  congr 1
  funext e
  match e with
  | 0 => exact Fin.ext (Nat.zero_add _)
  | 1 => exact Fin.ext (Nat.zero_add _)
  | 2 =>
    refine Fin.ext ?_
    show min (BitVec.toInt (idx _)).toNat 30 + 0 + 0 = _
    exact congrArg (fun i => min (BitVec.toInt (idx i)).toNat 30) (funext fun e => match e with | 0 => rfl | 1 => rfl | 2 => rfl)

/-- The kernel's table of bias rows: one relative row offset per row of the window. -/
theorem tab_rows (x : S8x15x64x64.Idx → α) (idx : IVec S8x1 32) (h : Fin 8) (i : Fin 8) (a : Fin 64) (b : Fin 64) :
    Host.gather gather_S8x15x64x64_S8x1_S8x8x64x64_023_1_n_n_1_1_816464 x idx (ix4 h i a b)
      = x (ix4 h ⟨min (idx (ix2 i 0)).toInt.toNat 14, by omega⟩ a b) := by
  unfold Host.gather
  congr 1
  funext e
  match e with
  | 0 => exact Fin.ext (Nat.zero_add _)
  | 1 =>
    refine Fin.ext ?_
    show min (BitVec.toInt (idx _)).toNat 14 + 0 + 0 = _
    exact congrArg (fun i => min (BitVec.toInt (idx i)).toNat 14) (funext fun e => match e with | 0 => rfl | 1 => rfl)
  | 2 => exact Fin.ext (Nat.zero_add _)
  | 3 => exact Fin.ext (Nat.zero_add _)

end

/-- The relative column of a window's column, clipped to the bias table's. -/
theorem lit_col : ∀ w n : Fin 64, min (BitVec.toInt (lit0 (S64x64.rowMajor (ix2 w n)))).toNat 30 = min (n.val + 15 - w.val) 30 := by
  decide +kernel

theorem lit_va0 : ∀ w n : Fin 64, lit2 (S64x64.rowMajor (ix2 w n)) = if min (w.val - 8) 48 ≤ n.val ∧ n.val < min (w.val - 8) 48 + 16 then 1#1 else 0#1 := by
  decide +kernel

theorem lit_vas : (lit4 = lit2 ∧ lit6 = lit2 ∧ lit8 = lit2 ∧ lit10 = lit2) ∧ lit12 = lit2 ∧ lit14 = lit2 ∧ lit16 = lit2 :=
  ⟨⟨rfl, rfl, rfl, rfl⟩, rfl, rfl, rfl⟩

end Cert.NattenHost
-- ==== Proof.NattenTab.lean ====
/-
  The kernel's bias table read at coordinates: case `k` holds, for head `2 j + hd`, a query at column `w` and the
  window's row `i` and column `n`, the bias at relative row `k + i`, −∞ outside the query's sixteen columns.
-/
module

public import proofs.«01_k».proof.Proof.NattenHost
public import proofs.«01_k».proof.Proof.NattenLits
public import proofs.«01_k».proof.Proof.NattenForms

@[expose] public section

set_option maxRecDepth 16384

noncomputable section

namespace Cert.NattenHost

open Cert.NattenIdeal Cert.NattenIdeal.Gen Cert.NattenForms Idealize.ShloMosaic

theorem heads_apply (x : FVec Ideal S1x64 .f32) (n : Fin 512) : heads x (ix2 0 n) = x (ix2 0 ⟨n.val % 64, by omega⟩) := by
  pointwise [heads]

theorem colT_apply (x : FVec Ideal S1x8x15x31 .f32) (h : Fin 8) (r : Fin 15) (w n : Fin 64) :
    colT x (ix4 h r w n) = x (ix4 0 h r ⟨min (n.val + 15 - w.val) 30, by omega⟩) := by
  unfold colT
  rw [tab_cols]
  have hi : broadcastInDim S64x64x1 ![0, 1] bcast_S64x64_S64x64x1_0_1
      (select (constantI S64x64 1 0#1)
        (addi (fun i => lit0 (S64x64.rowMajor i)) (broadcastInDim S64x64 ![] bcast_S_S64x64 (constantI S_ 32 31#32)))
        (fun i => lit0 (S64x64.rowMajor i))) (ix3 w n 0) = lit0 (S64x64.rowMajor (ix2 w n)) := by
    generalize lit0 = f
    pointwise []
  refine (congrArg (fun q => shapeCast S8x15x31 x shapeCasts_S1x8x15x31_S8x15x31 (ix3 h r q))
    (Fin.ext ((congrArg (fun b => min (BitVec.toInt b).toNat 30) hi).trans (lit_col w n)) : _ = (⟨min (n.val + 15 - w.val) 30, by omega⟩ : Fin 31))).trans ?_
  pointwise []

theorem caseT_apply (dr : IVec S8 32) (va : IVec S64x64 1) (g : FVec Ideal S8x15x64x64 .f32) (h : Fin 8) (w : Fin 64) (i : Fin 8) (n : Fin 64) :
    caseT dr va g (ix4 h w i n) = Scalar.select (va (ix2 w n)) (g (ix4 h ⟨min (BitVec.toInt (dr (ix1 i))).toNat 14, by omega⟩ w n)) ⊥ := by
  have hi : broadcastInDim S8x1 ![0] bcast_S8_S8x1_0
      (select (constantI S8 1 0#1) (addi dr (broadcastInDim S8 ![] bcast_S_S8 (constantI S_ 32 15#32))) dr) (ix2 i 0) = dr (ix1 i) := by
    pointwise []
  pointwise [caseT]
  rw [tab_rows]
  exact congrArg₂ (Scalar.select _) (congrArg (fun q => g (ix4 h q w n))
    (Fin.ext (congrArg (fun b => min (BitVec.toInt b).toNat 14) hi))) ofBits_bot

theorem slabT_apply (y : FVec Ideal S8x64x8x64 .f32) (j : Fin 4) (hd : Fin 2) (w : Fin 64) (i : Fin 8) (n : Fin 64) :
    slabT y (ix4 0 j ⟨64 * hd.val + w.val, by omega⟩ ⟨64 * i.val + n.val, by omega⟩) = y (ix4 ⟨2 * j.val + hd.val, by omega⟩ w i n) := by
  pointwise [slabT]
  exact congrArg (fun h => y (ix4 h w i n)) (Fin.ext (by show j.val * 2 + (64 * hd.val + w.val) / 64 = 2 * j.val + hd.val; omega))

theorem stack8_apply (y0 y1 y2 y3 y4 y5 y6 y7 : FVec Ideal S1x4x128x512 .f32) (k : Fin 8) (j : Fin 4) (l : Fin 128) (n : Fin 512) :
    stack8 y0 y1 y2 y3 y4 y5 y6 y7 (ix4 k j l n) = (match k with
      | 0 => y0 (ix4 0 j l n) | 1 => y1 (ix4 0 j l n) | 2 => y2 (ix4 0 j l n) | 3 => y3 (ix4 0 j l n)
      | 4 => y4 (ix4 0 j l n) | 5 => y5 (ix4 0 j l n) | 6 => y6 (ix4 0 j l n) | 7 => y7 (ix4 0 j l n)) := by
  pointwise [stack8]
  match k with
  | 0 => rfl
  | 1 => rfl
  | 2 => rfl
  | 3 => rfl
  | 4 => rfl
  | 5 => rfl
  | 6 => rfl
  | 7 => rfl

/-- The first of a case's relative rows is the case's number. -/
theorem lit_rows :
    ((∀ i : Fin 8, min (BitVec.toInt (lit1 (S8.rowMajor (ix1 i)))).toNat 14 = (0 : Fin 8).val + i.val)
    ∧ (∀ i : Fin 8, min (BitVec.toInt (lit3 (S8.rowMajor (ix1 i)))).toNat 14 = (1 : Fin 8).val + i.val)
    ∧ (∀ i : Fin 8, min (BitVec.toInt (lit5 (S8.rowMajor (ix1 i)))).toNat 14 = (2 : Fin 8).val + i.val)
    ∧ (∀ i : Fin 8, min (BitVec.toInt (lit7 (S8.rowMajor (ix1 i)))).toNat 14 = (3 : Fin 8).val + i.val))
    ∧ (∀ i : Fin 8, min (BitVec.toInt (lit9 (S8.rowMajor (ix1 i)))).toNat 14 = (4 : Fin 8).val + i.val)
    ∧ (∀ i : Fin 8, min (BitVec.toInt (lit11 (S8.rowMajor (ix1 i)))).toNat 14 = (5 : Fin 8).val + i.val)
    ∧ (∀ i : Fin 8, min (BitVec.toInt (lit13 (S8.rowMajor (ix1 i)))).toNat 14 = (6 : Fin 8).val + i.val)
    ∧ (∀ i : Fin 8, min (BitVec.toInt (lit15 (S8.rowMajor (ix1 i)))).toNat 14 = (7 : Fin 8).val + i.val) := by
  decide +kernel

/-- One case's slab, its relative rows starting at `k`. -/
theorem slab_apply (x : FVec Ideal S1x8x15x31 .f32) (k : Fin 8) (dr : IVec S8 32) (hdr : ∀ i : Fin 8, min (BitVec.toInt (dr (ix1 i))).toNat 14 = k.val + i.val)
    (j : Fin 4) (hd : Fin 2) (w : Fin 64) (i : Fin 8) (n : Fin 64) :
    slabT (caseT dr (fun i => lit2 (S64x64.rowMajor i)) (colT x)) (ix4 0 j ⟨64 * hd.val + w.val, by omega⟩ ⟨64 * i.val + n.val, by omega⟩)
      = if min (w.val - 8) 48 ≤ n.val ∧ n.val < min (w.val - 8) 48 + 16 then
          x (ix4 0 ⟨2 * j.val + hd.val, by omega⟩ ⟨k.val + i.val, by omega⟩ ⟨min (n.val + 15 - w.val) 30, by omega⟩)
        else ⊥ := by
  rw [slabT_apply, caseT_apply, lit_va0, colT_apply]
  simp only [hdr]
  split <;> rfl

theorem cases_apply (x : FVec Ideal S1x8x15x31 .f32) (k : Fin 8) (j : Fin 4) (hd : Fin 2) (w : Fin 64) (i : Fin 8) (n : Fin 64) :
    cases x (ix4 k j ⟨64 * hd.val + w.val, by omega⟩ ⟨64 * i.val + n.val, by omega⟩)
      = if min (w.val - 8) 48 ≤ n.val ∧ n.val < min (w.val - 8) 48 + 16 then
          x (ix4 0 ⟨2 * j.val + hd.val, by omega⟩ ⟨k.val + i.val, by omega⟩ ⟨min (n.val + 15 - w.val) 30, by omega⟩)
        else ⊥ := by
  obtain ⟨⟨r0, r1, r2, r3⟩, r4, r5, r6, r7⟩ := lit_rows
  obtain ⟨⟨v1, v2, v3, v4⟩, v5, v6, v7⟩ := lit_vas
  unfold cases
  rw [v1, v2, v3, v4, v5, v6, v7, stack8_apply]
  match k with
  | 0 => exact slab_apply x 0 (fun i => lit1 (S8.rowMajor i)) r0 j hd w i n
  | 1 => exact slab_apply x 1 (fun i => lit3 (S8.rowMajor i)) r1 j hd w i n
  | 2 => exact slab_apply x 2 (fun i => lit5 (S8.rowMajor i)) r2 j hd w i n
  | 3 => exact slab_apply x 3 (fun i => lit7 (S8.rowMajor i)) r3 j hd w i n
  | 4 => exact slab_apply x 4 (fun i => lit9 (S8.rowMajor i)) r4 j hd w i n
  | 5 => exact slab_apply x 5 (fun i => lit11 (S8.rowMajor i)) r5 j hd w i n
  | 6 => exact slab_apply x 6 (fun i => lit13 (S8.rowMajor i)) r6 j hd w i n
  | 7 => exact slab_apply x 7 (fun i => lit15 (S8.rowMajor i)) r7 j hd w i n

end Cert.NattenHost
-- ==== Proof.NattenGather.lean ====
/-
  The gathers of the reference, read at coordinates: an index clamped to its axis picks the row, the other axes stay.
-/
module

public import proofs.«01_k».proof.Proof.Gen.RefNattenIdeal.Read
public import proofs.«01_k».proof.Proof.NattenForms

@[expose] public section

set_option maxRecDepth 16384

noncomputable section

namespace Cert.NattenGather

open Cert.RefNattenIdeal Cert.RefNattenIdeal.Read Cert.NattenForms
open Idealize.ShloMosaic

variable {α : Type}

/-- The bias columns: one relative column offset per block, query and window column. -/
theorem rpb_cols (x : S8x15x31.Idx → α) (idx : IVec S4x16x32x1 32) (h : Fin 8) (r : Fin 15) (a : Fin 4) (b : Fin 16) (c : Fin 32) :
    Host.gather gather_S8x15x31_S4x16x32x1_S8x15x4x16x32_01_2_n_n_2_3_8151 x idx (ix5 h r a b c)
      = x (ix3 h r ⟨min (idx (ix4 a b c 0)).toInt.toNat 30, by omega⟩) := by
  unfold Host.gather
  congr 1
  funext e
  match e with
  | 0 => exact Fin.ext (Nat.zero_add _)
  | 1 => exact Fin.ext (Nat.zero_add _)
  | 2 =>
    refine Fin.ext ?_
    show min (BitVec.toInt (idx _)).toNat 30 + 0 + 0 = _
    exact congrArg (fun i => min (BitVec.toInt (idx i)).toNat 30) (funext fun e => match e with | 0 => rfl | 1 => rfl | 2 => rfl | 3 => rfl)

/-- The window's rows: eight of the grid's rows per query row. -/
theorem win_rows (x : S16x32x64x8x64.Idx → α) (idx : IVec S32x8x1 32) (b : Fin 16) (r : Fin 32) (i : Fin 8) (c : Fin 64) (h : Fin 8) (d : Fin 64) :
    Host.gather gather_S16x32x64x8x64_S32x8x1_S16x32x8x64x8x64_0345_1_n_n_1_2_16164864 x idx (ix6 b r i c h d)
      = x (ix5 b ⟨min (idx (ix3 r i 0)).toInt.toNat 31, by omega⟩ c h d) := by
  unfold Host.gather
  congr 1
  funext e
  match e with
  | 0 => exact Fin.ext (Nat.zero_add _)
  | 1 =>
    refine Fin.ext ?_
    show min (BitVec.toInt (idx _)).toNat 31 + 0 + 0 = _
    exact congrArg (fun i => min (BitVec.toInt (idx i)).toNat 31) (funext fun e => match e with | 0 => rfl | 1 => rfl | 2 => rfl)
  | 2 => exact Fin.ext (Nat.zero_add _)
  | 3 => exact Fin.ext (Nat.zero_add _)
  | 4 => exact Fin.ext (Nat.zero_add _)

/-- The window's columns: thirty-two of the grid's columns per block of queries. -/
theorem win_cols (x : S16x32x8x64x8x64.Idx → α) (idx : IVec S4x32x1 32) (b : Fin 16) (r : Fin 32) (i : Fin 8) (a : Fin 4) (c : Fin 32) (h : Fin 8) (d : Fin 64) :
    Host.gather gather_S16x32x8x64x8x64_S4x32x1_S16x32x8x4x32x8x64_01256_3_n_n_3_2_163281864 x idx (ix7 b r i a c h d)
      = x (ix6 b r i ⟨min (idx (ix3 a c 0)).toInt.toNat 63, by omega⟩ h d) := by
  unfold Host.gather
  congr 1
  funext e
  match e with
  | 0 => exact Fin.ext (Nat.zero_add _)
  | 1 => exact Fin.ext (Nat.zero_add _)
  | 2 => exact Fin.ext (Nat.zero_add _)
  | 3 =>
    refine Fin.ext ?_
    show min (BitVec.toInt (idx _)).toNat 63 + 0 + 0 = _
    exact congrArg (fun i => min (BitVec.toInt (idx i)).toNat 63) (funext fun e => match e with | 0 => rfl | 1 => rfl | 2 => rfl)
  | 4 => exact Fin.ext (Nat.zero_add _)
  | 5 => exact Fin.ext (Nat.zero_add _)

/-- The bias rows: one relative row offset per query row and window row. -/
theorem rpb_rows (x : S8x15x4x16x32.Idx → α) (idx : IVec S32x8x1 32) (h : Fin 8) (r : Fin 32) (i : Fin 8) (a : Fin 4) (b : Fin 16) (c : Fin 32) :
    Host.gather gather_S8x15x4x16x32_S32x8x1_S8x32x8x4x16x32_0345_1_n_n_1_2_8141632 x idx (ix6 h r i a b c)
      = x (ix5 h ⟨min (idx (ix3 r i 0)).toInt.toNat 14, by omega⟩ a b c) := by
  unfold Host.gather
  congr 1
  funext e
  match e with
  | 0 => exact Fin.ext (Nat.zero_add _)
  | 1 =>
    refine Fin.ext ?_
    show min (BitVec.toInt (idx _)).toNat 14 + 0 + 0 = _
    exact congrArg (fun i => min (BitVec.toInt (idx i)).toNat 14) (funext fun e => match e with | 0 => rfl | 1 => rfl | 2 => rfl)
  | 2 => exact Fin.ext (Nat.zero_add _)
  | 3 => exact Fin.ext (Nat.zero_add _)
  | 4 => exact Fin.ext (Nat.zero_add _)

end Cert.NattenGather
-- ==== Proof.NattenTables.lean ====
/-
  The reference's tables of indices: which rows and columns a query's window reads, which of them count,
  and which entries of the bias table go with them.
-/
module

public import proofs.«01_k».proof.Proof.Gen.RefNattenIdeal.Read
public import Idealize.ShloMosaic.Lib.Pointwise

@[expose] public section

set_option maxRecDepth 16384

noncomputable section

namespace Cert.NattenTables

open Cert.RefNattenIdeal Cert.RefNattenIdeal.Read
open Idealize.ShloMosaic

/-- The first of the thirty-two columns that the queries of block `a` read. -/
abbrev blkStart (a : Fin 4) : ℕ := min (16 * a.val - 8) 32

/-- The first of the sixteen columns in the window of the query at column `w`. -/
abbrev winStart (w : ℕ) : ℕ := min (w - 8) 48

/-- The first of the eight rows in the window of the queries at row `r`. -/
abbrev rowStart (r : Fin 32) : ℕ := min (r.val - 4) 24

theorem row_index : ∀ (r : Fin 32) (i : Fin 8), min (BitVec.toInt (val_main_v138 (F := Ideal) (ix3 r i 0))).toNat 31 = rowStart r + i.val := by
  decide +kernel

theorem row_index' : ∀ (r : Fin 32) (i : Fin 8), min (BitVec.toInt (val_main_v152 (F := Ideal) (ix3 r i 0))).toNat 31 = rowStart r + i.val := by
  decide +kernel

theorem col_index : ∀ (a : Fin 4) (c : Fin 32), min (BitVec.toInt (val_main_v145 (F := Ideal) (ix3 a c 0))).toNat 63 = blkStart a + c.val := by
  decide +kernel

theorem col_index' : ∀ (a : Fin 4) (c : Fin 32), min (BitVec.toInt (val_main_v159 (F := Ideal) (ix3 a c 0))).toNat 63 = blkStart a + c.val := by
  decide +kernel

theorem bias_row : ∀ (r : Fin 32) (i : Fin 8), min (BitVec.toInt (val_main_call4_v5 (F := Ideal) (ix3 r i 0))).toNat 14 = rowStart r + i.val + 7 - r.val := by
  decide +kernel

theorem bias_row_ok : ∀ (r : Fin 32) (i : Fin 8), (val_main_call4_v11 (F := Ideal) (ix3 r i 0) : BitVec 1) = 1#1 := by
  decide +kernel

theorem bias_col : ∀ (a : Fin 4) (b : Fin 16) (c : Fin 32), min (BitVec.toInt (val_main_v121 (F := Ideal) (ix4 a b c 0))).toNat 30
    = min (blkStart a + c.val + 15 - (16 * a.val + b.val)) 30 := by
  decide +kernel

theorem valid : ∀ (a : Fin 4) (b : Fin 16) (c : Fin 32), (val_main_v102 (F := Ideal) (ix3 a b c) : BitVec 1)
    = if winStart (16 * a.val + b.val) ≤ blkStart a + c.val ∧ blkStart a + c.val < winStart (16 * a.val + b.val) + 16 then 1#1 else 0#1 := by
  decide +kernel

end Cert.NattenTables
-- ==== Proof.NattenRef.lean ====
/-
  What the reference computes: heads normalised, the windows gathered, the scores with their bias and mask,
  and one softmax over a window and the context.
-/
module

public import proofs.«01_k».proof.Proof.NattenGather
public import proofs.«01_k».proof.Proof.NattenTables

@[expose] public section

set_option maxRecDepth 16384

noncomputable section

namespace Cert.NattenRef

open Cert.RefNattenIdeal Cert.RefNattenIdeal.Read Cert.NattenForms Cert.NattenGather Cert.NattenTables
open Idealize.ShloMosaic

variable (x : (⟨S16x2048x1536, .bf16⟩ : BufTy).Contents (Elt Ideal)) (cx : (⟨S16x256x1536, .bf16⟩ : BufTy).Contents (Elt Ideal))
  (wq wk : (⟨S1x64, .f32⟩ : BufTy).Contents (Elt Ideal)) (rpb : (⟨S1x8x15x31, .f32⟩ : BufTy).Contents (Elt Ideal))

/-- A query's head, normalised, weighted and scaled. -/
theorem v23_apply (b : Fin 16) (n : Fin 2048) (h : Fin 8) (d : Fin 64) :
    val_main_v23 (F := Ideal) x wq (ix4 b n h d)
      = rms (fun d => x (ix3 b n ⟨h.val * 64 + d.val, by omega⟩)) (fun d => wq (ix2 0 d)) d * Ideal.ofBits .f32 0x3E000000#32 := by
  pointwise [val_main_v23, val_main_v22, val_main_v21, val_main_v20, val_main_v19, val_main_v18, val_main_v17,
    val_main_v16, val_main_v15, val_main_v14, val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1, val_main_cst_2, rms]

/-- A key's head, normalised and weighted. -/
theorem v36_apply (b : Fin 16) (n : Fin 2048) (h : Fin 8) (d : Fin 64) :
    val_main_v36 (F := Ideal) x wk (ix4 b n h d)
      = rms (fun d => x (ix3 b n ⟨512 + (h.val * 64 + d.val), by omega⟩)) (fun d => wk (ix2 0 d)) d := by
  pointwise [val_main_v36, val_main_v35, val_main_v34, val_main_v33, val_main_v32, val_main_v31, val_main_v30,
    val_main_v29, val_main_v28, val_main_v27, val_main_v26, val_main_v25, val_main_v24, val_main_v7,
    val_main_v6, val_main_v5, val_main_v4, val_main_v3, val_main_v2, val_main_v1, val_main_v0, val_main_cst_3,
    val_main_cst_4, val_main_cst_5, rms]

/-- A context key's head, normalised and weighted. -/
theorem v73_apply (b : Fin 16) (n : Fin 256) (h : Fin 8) (d : Fin 64) :
    val_main_v73 (F := Ideal) cx wk (ix4 b n h d)
      = rms (fun d => cx (ix3 b n ⟨512 + (h.val * 64 + d.val), by omega⟩)) (fun d => wk (ix2 0 d)) d := by
  pointwise [val_main_v73, val_main_v72, val_main_v71, val_main_v70, val_main_v69, val_main_v68, val_main_v67,
    val_main_v66, val_main_v65, val_main_v64, val_main_v63, val_main_v62, val_main_v61, val_main_v44,
    val_main_v43, val_main_v42, val_main_v41, val_main_v40, val_main_v39, val_main_v38, val_main_v37,
    val_main_cst_10, val_main_cst_11, val_main_cst_12, rms]

/-- A value's head. -/
theorem v8_apply (b : Fin 16) (n : Fin 2048) (h : Fin 8) (d : Fin 64) :
    val_main_v8 (F := Ideal) x (ix4 b n h d) = x (ix3 b n ⟨1024 + (h.val * 64 + d.val), by omega⟩) := by
  pointwise [val_main_v8, val_main_v7, val_main_v6, val_main_v5, val_main_v4, val_main_v3, val_main_v2]

/-- A context value's head. -/
theorem v45_apply (b : Fin 16) (n : Fin 256) (h : Fin 8) (d : Fin 64) :
    val_main_v45 (F := Ideal) cx (ix4 b n h d) = cx (ix3 b n ⟨1024 + (h.val * 64 + d.val), by omega⟩) := by
  pointwise [val_main_v45, val_main_v44, val_main_v43, val_main_v42, val_main_v41, val_main_v40, val_main_v39]

/-! ## The window -/

/-- The place of the window's row `i` and column `c`, for the queries at row `r` in block `a`. -/
abbrev pos (r : Fin 32) (a : Fin 4) (i : Fin 8) (c : Fin 32) : Fin 2048 := ⟨64 * (rowStart r + i.val) + (blkStart a + c.val), by simp only [rowStart, blkStart]; omega⟩

/-- The place of a query at row `r`, block `a` and column `w` of the block. -/
abbrev qpos (r : Fin 32) (a : Fin 4) (w : Fin 16) : Fin 2048 := ⟨64 * r.val + (16 * a.val + w.val), by omega⟩

theorem v112_apply (b : Fin 16) (r : Fin 32) (a : Fin 4) (w : Fin 16) (h : Fin 8) (d : Fin 64) :
    val_main_v112 (F := Ideal) x wq (ix6 b r a w h d) = val_main_v23 (F := Ideal) x wq (ix4 b (qpos r a w) h d) := by
  pointwise [val_main_v112]
  exact congrArg (fun n => val_main_v23 (F := Ideal) x wq (ix4 b n h d)) (Fin.ext (by show r.val * 64 + a.val * 16 + w.val = 64 * r.val + (16 * a.val + w.val); omega))

theorem v113_apply (b : Fin 16) (r : Fin 32) (w : Fin 64) (h : Fin 8) (d : Fin 64) :
    val_main_v113 (F := Ideal) x wk (ix5 b r w h d) = val_main_v36 (F := Ideal) x wk (ix4 b ⟨64 * r.val + w.val, by omega⟩ h d) := by
  pointwise [val_main_v113]
  exact congrArg (fun n => val_main_v36 (F := Ideal) x wk (ix4 b n h d)) (Fin.ext (congrArg (· + w.val) (Nat.mul_comm _ _)))

theorem v114_apply (b : Fin 16) (r : Fin 32) (w : Fin 64) (h : Fin 8) (d : Fin 64) :
    val_main_v114 (F := Ideal) x (ix5 b r w h d) = val_main_v8 (F := Ideal) x (ix4 b ⟨64 * r.val + w.val, by omega⟩ h d) := by
  pointwise [val_main_v114]
  exact congrArg (fun n => val_main_v8 (F := Ideal) x (ix4 b n h d)) (Fin.ext (congrArg (· + w.val) (Nat.mul_comm _ _)))

theorem v146_apply (b : Fin 16) (r : Fin 32) (i : Fin 8) (a : Fin 4) (c : Fin 32) (h : Fin 8) (d : Fin 64) :
    val_main_v146 (F := Ideal) x wk (ix7 b r i a c h d) = val_main_v36 (F := Ideal) x wk (ix4 b (pos r a i c) h d) := by
  unfold val_main_v146 val_main_v139
  rw [win_cols, win_rows]
  simp only [row_index, col_index]
  exact v113_apply x wk b _ _ h d

theorem v160_apply (b : Fin 16) (r : Fin 32) (i : Fin 8) (a : Fin 4) (c : Fin 32) (h : Fin 8) (d : Fin 64) :
    val_main_v160 (F := Ideal) x (ix7 b r i a c h d) = val_main_v8 (F := Ideal) x (ix4 b (pos r a i c) h d) := by
  unfold val_main_v160 val_main_v153
  rw [win_cols, win_rows]
  simp only [row_index', col_index']
  exact v114_apply x b _ _ h d

/-! ## Bias and mask -/

/-- The row of the bias table for the window's row `i`: its offset from the query's row, plus 7. -/
abbrev biasRow (r : Fin 32) (i : Fin 8) : Fin 15 := ⟨rowStart r + i.val + 7 - r.val, by simp only [rowStart]; omega⟩

/-- The column of the bias table for the window's column `c`: its offset from the query's column, plus 15, clipped. -/
abbrev biasCol (a : Fin 4) (w : Fin 16) (c : Fin 32) : Fin 31 := ⟨min (blkStart a + c.val + 15 - (16 * a.val + w.val)) 30, by omega⟩

theorem v168_apply (h : Fin 8) (r : Fin 32) (i : Fin 8) (a : Fin 4) (w : Fin 16) (c : Fin 32) :
    val_main_v168 (F := Ideal) rpb (ix6 h r i a w c)
      = rpb (ix4 0 h (biasRow r i) (biasCol a w c)) := by
  have h12 : (val_main_call4_v12 (F := Ideal) (ix2 r i) : BitVec 1) = 1#1 := by
    revert r i; decide +kernel
  pointwise [val_main_v168, val_main_call4_v14]
  rw [h12]
  unfold val_main_call4_v13 val_main_v122
  rw [rpb_rows, rpb_cols]
  simp only [bias_row, bias_col]
  pointwise [val_main_v115]

theorem v175_apply (b : Fin 16) (h : Fin 8) (r : Fin 32) (a : Fin 4) (w : Fin 16) (i : Fin 8) (c : Fin 32) :
    val_main_v175 (F := Ideal) x wq wk rpb (ix7 b h r a w i c)
      = Scalar.select (val_main_v102 (F := Ideal) (ix3 a w c))
          (∑ d : Fin 64, val_main_v23 (F := Ideal) x wq (ix4 b (qpos r a w) h d) * val_main_v36 (F := Ideal) x wk (ix4 b (pos r a i c) h d)
            + rpb (ix4 0 h (biasRow r i) (biasCol a w c))) ⊥ := by
  pointwise [val_main_v175, val_main_v174, val_main_v173, val_main_v172, val_main_v171, val_main_v170, val_main_v169,
    val_main_call5_v0, val_main_call5_v1, val_main_call5_v2, val_main_cst_39]
  rw [v168_apply]
  simp only [v112_apply, v146_apply]
  exact congrArg (Scalar.select _ _) ofBits_bot

theorem v176_apply (b : Fin 16) (h : Fin 8) (r : Fin 32) (a : Fin 4) (w : Fin 16) (n : Fin 256) :
    val_main_v176 (F := Ideal) x cx wq wk (ix6 b h r a w n)
      = ∑ d : Fin 64, val_main_v23 (F := Ideal) x wq (ix4 b (qpos r a w) h d) * val_main_v73 (F := Ideal) cx wk (ix4 b n h d) := by
  pointwise [val_main_v176]
  simp only [v112_apply]

end Cert.NattenRef
-- ==== Proof.NattenSoftmax.lean ====
/-
  The reference's softmax over a window and the context, and the attention it weighs.
-/
module

public import proofs.«01_k».proof.Proof.NattenRef
public import Idealize.ShloMosaic.Lib.KernelVsHost

@[expose] public section

set_option maxRecDepth 16384

noncomputable section

namespace Cert.NattenRef

open Cert.RefNattenIdeal Cert.RefNattenIdeal.Read Cert.NattenForms Cert.NattenGather Cert.NattenTables
open Idealize.ShloMosaic

variable (x : (⟨S16x2048x1536, .bf16⟩ : BufTy).Contents (Elt Ideal)) (cx : (⟨S16x256x1536, .bf16⟩ : BufTy).Contents (Elt Ideal))
  (wq wk : (⟨S1x64, .f32⟩ : BufTy).Contents (Elt Ideal)) (rpb : (⟨S1x8x15x31, .f32⟩ : BufTy).Contents (Elt Ideal))

/-! ## The softmax over a window and the context -/

/-- The scores of a window's columns, row after row. -/
abbrev scoreR (b : Fin 16) (h : Fin 8) (r : Fin 32) (a : Fin 4) (w : Fin 16) (n : Fin 256) : EReal :=
  val_main_v175 (F := Ideal) x wq wk rpb (ix7 b h r a w ⟨n.val / 32, by omega⟩ ⟨n.val % 32, by omega⟩)

/-- The scores of the context. -/
abbrev scoreC (b : Fin 16) (h : Fin 8) (r : Fin 32) (a : Fin 4) (w : Fin 16) (n : Fin 256) : EReal :=
  val_main_v176 (F := Ideal) x cx wq wk (ix6 b h r a w n)

theorem v178_lo (b : Fin 16) (h : Fin 8) (r : Fin 32) (a : Fin 4) (w : Fin 16) (n : Fin 256) :
    val_main_v178 (F := Ideal) x cx wq wk rpb (ix6 b h r a w ⟨n.val, by omega⟩) = scoreR x wq wk rpb b h r a w n := by
  pointwise [val_main_v178, val_main_v177]

theorem v178_hi (b : Fin 16) (h : Fin 8) (r : Fin 32) (a : Fin 4) (w : Fin 16) (n : Fin 256) :
    val_main_v178 (F := Ideal) x cx wq wk rpb (ix6 b h r a w ⟨256 + n.val, by omega⟩) = scoreC x cx wq wk b h r a w n := by
  pointwise [val_main_v178, val_main_v177]

/-- The largest of a row of 512. -/
theorem reduce_row (y : FVec Ideal S16x8x32x4x16x512 .f32) (b : Fin 16) (h : Fin 8) (r : Fin 32) (a : Fin 4) (w : Fin 16) :
    Host.reduce FloatOps.maximumf y (constant (F := Ideal) S_ .f32 0xFF800000#32) Gen.reducesTo_S16x8x32x4x16x512_S16x8x32x4x16_d5 Gen.h_S_ (ix5 b h r a w)
      = Finset.univ.sup fun n : Fin 512 => y (ix6 b h r a w n) := by
  have hred : S16x8x32x4x16x512.Reduces [5] S16x8x32x4x16 := by decide
  refine (congrFun (hostReduce_maximumf_eq_multiReduction y 0xFF800000#32 Gen.reducesTo_S16x8x32x4x16x512_S16x8x32x4x16_d5 Gen.h_S_ hred
    (.inl rfl) rfl) (ix5 b h r a w)).trans ?_
  refine (Ideal.multiReduction_maximumf_single y 0xFF800000#32 hred (.inl rfl) rfl (ix5 b h r a w)).trans ?_
  refine (congrArg (fun z => Finset.univ.fold max z (y ∘ hred.lift (ix5 b h r a w))) ofBits_bot).trans ?_
  refine congrArg (fun f : Fin 512 → EReal => Finset.univ.sup f) (funext fun n => congrArg y (funext fun e => Fin.ext ?_))
  match e with | 0 => rfl | 1 => rfl | 2 => rfl | 3 => rfl | 4 => rfl | 5 => rfl

/-- The largest of 512 is the larger of the two halves' largest. -/
theorem sup_halves (f : Fin 512 → EReal) :
    Finset.univ.sup f = max (Finset.univ.sup fun n : Fin 256 => f ⟨n.val, by omega⟩) (Finset.univ.sup fun n : Fin 256 => f ⟨256 + n.val, by omega⟩) := by
  apply le_antisymm
  · refine Finset.sup_le fun n _ => ?_
    by_cases hn : n.val < 256
    · exact le_max_of_le_left (Finset.le_sup (f := fun n : Fin 256 => f ⟨n.val, by omega⟩) (Finset.mem_univ ⟨n.val, hn⟩))
    · refine le_max_of_le_right ?_
      have := Finset.le_sup (f := fun n : Fin 256 => f ⟨256 + n.val, by omega⟩) (Finset.mem_univ ⟨n.val - 256, by omega⟩)
      refine le_trans (le_of_eq (congrArg f (Fin.ext ?_))) this
      show n.val = 256 + (n.val - 256)
      omega
  · exact max_le (Finset.sup_le fun n _ => Finset.le_sup (f := f) (Finset.mem_univ _)) (Finset.sup_le fun n _ => Finset.le_sup (f := f) (Finset.mem_univ _))

/-- The largest of a query's scores, over its window and the context. -/
theorem v181_apply (b : Fin 16) (h : Fin 8) (r : Fin 32) (a : Fin 4) (w : Fin 16) :
    val_main_v181 (F := Ideal) x cx wq wk rpb (ix5 b h r a w)
      = max (Finset.univ.sup (scoreR x wq wk rpb b h r a w)) (Finset.univ.sup (scoreC x cx wq wk b h r a w)) := by
  have h1 : val_main_v179 (F := Ideal) x cx wq wk rpb (ix5 b h r a w)
      = Finset.univ.sup fun n : Fin 512 => val_main_v178 (F := Ideal) x cx wq wk rpb (ix6 b h r a w n) := by
    unfold val_main_v179
    generalize val_main_v178 (F := Ideal) x cx wq wk rpb = y
    exact reduce_row y b h r a w
  rw [val_main_v181_apply, val_main_v180_apply, h1, sup_halves]
  simp only [v178_lo, v178_hi]
  exact (congrArg (max · _) ofBits_bot).trans (max_eq_right bot_le)

theorem v185_apply (b : Fin 16) (h : Fin 8) (r : Fin 32) (a : Fin 4) (w : Fin 16) (n : Fin 512) :
    val_main_v185 (F := Ideal) x cx wq wk rpb (ix6 b h r a w n)
      = Ideal.exp (val_main_v178 (F := Ideal) x cx wq wk rpb (ix6 b h r a w n)
          - max (Finset.univ.sup (scoreR x wq wk rpb b h r a w)) (Finset.univ.sup (scoreC x cx wq wk b h r a w))) := by
  pointwise [val_main_v185, val_main_v184, val_main_v183, val_main_v182]
  rw [v181_apply]

theorem v186_row (b : Fin 16) (h : Fin 8) (r : Fin 32) (a : Fin 4) (w : Fin 16) :
    val_main_v186 (F := Ideal) x cx wq wk rpb (ix5 b h r a w) = ∑ n : Fin 512, val_main_v185 (F := Ideal) x cx wq wk rpb (ix6 b h r a w n) := by
  rw [val_main_v186_apply]
  refine (congrArg₂ (· + ·) (Ideal.ofBits_zero .f32) (Finset.sum_congr rfl fun n _ => congrArg _ (funext fun e => ?_))).trans (zero_add _)
  match e with | 0 => rfl | 1 => rfl | 2 => rfl | 3 => rfl | 4 => rfl | 5 => rfl

theorem v189_apply (b : Fin 16) (h : Fin 8) (r : Fin 32) (a : Fin 4) (w : Fin 16) (n : Fin 512) :
    val_main_v189 (F := Ideal) x cx wq wk rpb (ix6 b h r a w n)
      = Ideal.div (val_main_v185 (F := Ideal) x cx wq wk rpb (ix6 b h r a w n)) (∑ n, val_main_v185 (F := Ideal) x cx wq wk rpb (ix6 b h r a w n)) := by
  pointwise [val_main_v189, val_main_v188, val_main_v187]
  rw [v186_row]

theorem v191_apply (b : Fin 16) (h : Fin 8) (r : Fin 32) (a : Fin 4) (w : Fin 16) (i : Fin 8) (c : Fin 32) :
    val_main_v191 (F := Ideal) x cx wq wk rpb (ix7 b h r a w i c)
      = val_main_v189 (F := Ideal) x cx wq wk rpb (ix6 b h r a w ⟨i.val * 32 + c.val, by omega⟩) := by
  pointwise [val_main_v191, val_main_v190]

theorem v195_apply (b : Fin 16) (h : Fin 8) (r : Fin 32) (a : Fin 4) (w : Fin 16) (d : Fin 64) :
    val_main_v195 (F := Ideal) x cx wq wk rpb (ix6 b h d r a w)
      = ∑ n : Fin 256, val_main_v45 (F := Ideal) cx (ix4 b n h d) * val_main_v189 (F := Ideal) x cx wq wk rpb (ix6 b h r a w ⟨256 + n.val, by omega⟩) := by
  pointwise [val_main_v195, val_main_v194]

theorem v192_apply (b : Fin 16) (h : Fin 8) (r : Fin 32) (a : Fin 4) (w : Fin 16) (d : Fin 64) :
    val_main_v192 (F := Ideal) x cx wq wk rpb (ix6 b r a h d w)
      = ∑ n : Fin 256, val_main_v160 (F := Ideal) x (ix7 b r ⟨n.val / 32, by omega⟩ a ⟨n.val % 32, by omega⟩ h d)
          * val_main_v191 (F := Ideal) x cx wq wk rpb (ix7 b h r a w ⟨n.val / 32, by omega⟩ ⟨n.val % 32, by omega⟩) := by
  pointwise [val_main_v192]
  rw [Finset.sum_comm, ← Fintype.sum_prod_type', ← Equiv.sum_comp (finProdFinEquiv (m := 8) (n := 32)).symm]
  rfl

theorem v199_apply (b : Fin 16) (h : Fin 8) (r : Fin 32) (a : Fin 4) (w : Fin 16) (d : Fin 64) :
    val_main_v199 (F := Ideal) x cx wq wk rpb (ix3 b (qpos r a w) ⟨h.val * 64 + d.val, by omega⟩)
      = val_main_v192 (F := Ideal) x cx wq wk rpb (ix6 b r a h d w) + val_main_v195 (F := Ideal) x cx wq wk rpb (ix6 b h d r a w) := by
  pointwise [val_main_v199, val_main_v198, val_main_v197, val_main_v196, val_main_v193]
  have hr : (⟨(64 * r.val + (16 * a.val + w.val)) / 64, by omega⟩ : Fin 32) = r := Fin.ext (by show _ / 64 = r.val; omega)
  have ha : (⟨(64 * r.val + (16 * a.val + w.val)) / 16 % 4, by omega⟩ : Fin 4) = a := Fin.ext (by show _ / 16 % 4 = a.val; omega)
  have hw : (⟨(64 * r.val + (16 * a.val + w.val)) % 16, by omega⟩ : Fin 16) = w := Fin.ext (by show _ % 16 = w.val; omega)
  rw [hr, ha, hw]

end Cert.NattenRef
-- ==== Proof.NattenEq.lean ====
/-
  One head's output at one query, the kernel's and the reference's: the kernel's 512 window columns, those outside the
  query's sixteen at −∞, give the softmax of the reference's 256 gathered ones.
-/
module

public import proofs.«01_k».proof.Proof.NattenSoftmax
public import proofs.«01_k».proof.Proof.NattenPairs

@[expose] public section

set_option maxRecDepth 16384

noncomputable section

namespace Cert.NattenEq

open Cert.RefNattenIdeal Cert.RefNattenIdeal.Read Cert.NattenForms Cert.NattenKeys Cert.NattenPairs Cert.NattenTables Cert.NattenRef
open Idealize.ShloMosaic

/-! ## The reference -/

section Reference

variable (x : (⟨S16x2048x1536, .bf16⟩ : BufTy).Contents (Elt Ideal)) (cx : (⟨S16x256x1536, .bf16⟩ : BufTy).Contents (Elt Ideal))
  (wq wk : (⟨S1x64, .f32⟩ : BufTy).Contents (Elt Ideal)) (rpb : (⟨S1x8x15x31, .f32⟩ : BufTy).Contents (Elt Ideal))

/-- A sum over a window and the context. -/
theorem sum_row (f : Fin 512 → EReal) :
    ∑ n, f n = ∑ n : Fin 256, f ⟨n.val, by omega⟩ + ∑ n : Fin 256, f ⟨256 + n.val, by omega⟩ :=
  Fin.sum_univ_two_halves 256 256 rfl f

theorem v185_lo (b : Fin 16) (h : Fin 8) (r : Fin 32) (a : Fin 4) (w : Fin 16) (n : Fin 256) :
    val_main_v185 (F := Ideal) x cx wq wk rpb (ix6 b h r a w ⟨n.val, by omega⟩)
      = Ideal.exp (scoreR x wq wk rpb b h r a w n
          - max (Finset.univ.sup (scoreR x wq wk rpb b h r a w)) (Finset.univ.sup (scoreC x cx wq wk b h r a w))) := by
  rw [v185_apply, v178_lo]

theorem v185_hi (b : Fin 16) (h : Fin 8) (r : Fin 32) (a : Fin 4) (w : Fin 16) (n : Fin 256) :
    val_main_v185 (F := Ideal) x cx wq wk rpb (ix6 b h r a w ⟨256 + n.val, by omega⟩)
      = Ideal.exp (scoreC x cx wq wk b h r a w n
          - max (Finset.univ.sup (scoreR x wq wk rpb b h r a w)) (Finset.univ.sup (scoreC x cx wq wk b h r a w))) := by
  rw [v185_apply, v178_hi]

/-- The reference's output of a head at a query. -/
theorem ref_apply (b : Fin 16) (h : Fin 8) (r : Fin 32) (a : Fin 4) (w : Fin 16) (d : Fin 64) (sR sC : Fin 256 → EReal)
    (hR : scoreR x wq wk rpb b h r a w = sR) (hC : scoreC x cx wq wk b h r a w = sC) :
    val_main_v199 (F := Ideal) x cx wq wk rpb (ix3 b (qpos r a w) ⟨h.val * 64 + d.val, by omega⟩)
      = ∑ n : Fin 256, Ideal.div (Ideal.exp (sR n - max (Finset.univ.sup sR) (Finset.univ.sup sC)))
            (∑ n, Ideal.exp (sR n - max (Finset.univ.sup sR) (Finset.univ.sup sC)) + ∑ n, Ideal.exp (sC n - max (Finset.univ.sup sR) (Finset.univ.sup sC)))
            * x (ix3 b (pos r a ⟨n.val / 32, by omega⟩ ⟨n.val % 32, by omega⟩) ⟨1024 + (h.val * 64 + d.val), by omega⟩)
        + ∑ n : Fin 256, Ideal.div (Ideal.exp (sC n - max (Finset.univ.sup sR) (Finset.univ.sup sC)))
            (∑ n, Ideal.exp (sR n - max (Finset.univ.sup sR) (Finset.univ.sup sC)) + ∑ n, Ideal.exp (sC n - max (Finset.univ.sup sR) (Finset.univ.sup sC)))
            * cx (ix3 b n ⟨1024 + (h.val * 64 + d.val), by omega⟩) := by
  have hn : ∀ n : Fin 256, (⟨n.val / 32 * 32 + n.val % 32, by omega⟩ : Fin 512) = ⟨n.val, by omega⟩ := fun n =>
    Fin.ext (by show n.val / 32 * 32 + n.val % 32 = n.val; omega)
  rw [v199_apply, v192_apply, v195_apply]
  subst hR hC
  refine congrArg₂ (· + ·) (Finset.sum_congr rfl fun n _ => ?_) (Finset.sum_congr rfl fun n _ => ?_)
  · rw [v160_apply, v8_apply, v191_apply, hn, v189_apply, sum_row]
    simp only [v185_lo, v185_hi]
    rw [mul_comm]
  · rw [v45_apply, v189_apply, sum_row]
    simp only [v185_lo, v185_hi]
    rw [mul_comm]

end Reference

/-! ## The kernel's normalised heads -/

/-- A head of a row of reals is divided by its own root mean square. -/
theorem headAt_rms {x : Fin 512 → EReal} (w : Fin 512 → EReal) (hx : ∀ c, IsReal (x c)) (j : Fin 4) (hd : Fin 2) (d : Fin 64) :
    headAt x w (col j (lane hd d)) = rms (fun d => x (col j (lane hd d))) (fun d => w (col j (lane hd d))) d := by
  rw [headAt_col]
  unfold headRms rms
  rw [seg_eq (fun l => ?_) (fun l => hx _)]
  rw [low_eq]
  have : (col j l).val % 128 = l.val := by simp only [col]; omega
  rw [this]

/-! ## The equation -/

/-- The gathered column `n` among the window's 512. -/
abbrev place (a : Fin 4) (n : Fin 256) : Fin 512 :=
  ⟨64 * (n.val / 32) + (blkStart a + n.val % 32), by simp only [blkStart]; omega⟩

theorem place_inj (a : Fin 4) : Function.Injective (place a) := fun n n' h => by
  have h := congrArg Fin.val h
  simp only [place, blkStart] at h
  exact Fin.ext (by omega)

theorem eq_place (a : Fin 4) (n : Fin 512) (h : blkStart a ≤ n.val % 64 ∧ n.val % 64 < blkStart a + 32) : ∃ n', place a n' = n := by
  refine ⟨⟨n.val / 64 * 32 + (n.val % 64 - blkStart a), by omega⟩, Fin.ext ?_⟩
  simp only [place]
  omega

theorem win_place (r : Fin 32) (a : Fin 4) (n : Fin 256) : win r (place a n) = pos r a ⟨n.val / 32, by omega⟩ ⟨n.val % 32, by omega⟩ :=
  Fin.ext (by simp only [win, place, pos, rowStart, rs]; omega)

/-- What a grid point of batch `b` finds in its blocks. -/
structure Reads (x : (⟨S16x2048x1536, .bf16⟩ : BufTy).Contents (Elt Ideal)) (cx : (⟨S16x256x1536, .bf16⟩ : BufTy).Contents (Elt Ideal))
    (wq wk : (⟨S1x64, .f32⟩ : BufTy).Contents (Elt Ideal)) (rpb : (⟨S1x8x15x31, .f32⟩ : BufTy).Contents (Elt Ideal)) (b : Fin 16)
    (x0 x1 x2 : Vec Ideal Cert.NattenIdeal.S1x2048x512 .bf16) (x3 x4 : Vec Ideal Cert.NattenIdeal.S1x256x512 .bf16)
    (x5 x6 : Vec Ideal Cert.NattenIdeal.S1x512 .f32) (x7 : Vec Ideal Cert.NattenIdeal.S8x4x128x512 .f32) : Prop where
  h0 : ∀ (n : Fin 2048) (c : Fin 512), x0 (ix3 0 n c) = x (ix3 b n ⟨c.val, by omega⟩)
  h1 : ∀ (n : Fin 2048) (c : Fin 512), x1 (ix3 0 n c) = x (ix3 b n ⟨512 + c.val, by omega⟩)
  h2 : ∀ (n : Fin 2048) (c : Fin 512), x2 (ix3 0 n c) = x (ix3 b n ⟨1024 + c.val, by omega⟩)
  h3 : ∀ (n : Fin 256) (c : Fin 512), x3 (ix3 0 n c) = cx (ix3 b n ⟨512 + c.val, by omega⟩)
  h4 : ∀ (n : Fin 256) (c : Fin 512), x4 (ix3 0 n c) = cx (ix3 b n ⟨1024 + c.val, by omega⟩)
  h5 : ∀ c : Fin 512, x5 (ix2 0 c) = wq (ix2 0 ⟨c.val % 64, by omega⟩)
  h6 : ∀ c : Fin 512, x6 (ix2 0 c) = wk (ix2 0 ⟨c.val % 64, by omega⟩)
  h7 : ∀ (k : Fin 8) (j : Fin 4) (hd : Fin 2) (w : Fin 64) (i : Fin 8) (n : Fin 64),
    x7 (ix4 k j ⟨64 * hd.val + w.val, by omega⟩ ⟨64 * i.val + n.val, by omega⟩)
      = if min (w.val - 8) 48 ≤ n.val ∧ n.val < min (w.val - 8) 48 + 16 then
          rpb (ix4 0 ⟨2 * j.val + hd.val, by omega⟩ ⟨k.val + i.val, by omega⟩ ⟨min (n.val + 15 - w.val) 30, by omega⟩)
        else ⊥

section Heads

variable (x : (⟨S16x2048x1536, .bf16⟩ : BufTy).Contents (Elt Ideal)) (cx : (⟨S16x256x1536, .bf16⟩ : BufTy).Contents (Elt Ideal))
  (wq wk : (⟨S1x64, .f32⟩ : BufTy).Contents (Elt Ideal)) (rpb : (⟨S1x8x15x31, .f32⟩ : BufTy).Contents (Elt Ideal))
  (hx : ∀ i, IsReal (x i)) (hcx : ∀ i, IsReal (cx i)) (hwq : ∀ i, IsReal (wq i)) (hwk : ∀ i, IsReal (wk i)) (hrpb : ∀ i, IsReal (rpb i))

include hx hwq in
theorem v23_real (b : Fin 16) (n : Fin 2048) (h : Fin 8) (d : Fin 64) : IsReal (val_main_v23 (F := Ideal) x wq (ix4 b n h d)) := by
  rw [v23_apply]
  exact (rms_real (fun _ => hx _) (fun _ => hwq _) d).mul ⟨_, ofBits_eighth⟩

include hx hwk in
theorem v36_real (b : Fin 16) (n : Fin 2048) (h : Fin 8) (d : Fin 64) : IsReal (val_main_v36 (F := Ideal) x wk (ix4 b n h d)) := by
  rw [v36_apply]
  exact rms_real (fun _ => hx _) (fun _ => hwk _) d

include hcx hwk in
theorem v73_real (b : Fin 16) (n : Fin 256) (h : Fin 8) (d : Fin 64) : IsReal (val_main_v73 (F := Ideal) cx wk (ix4 b n h d)) := by
  rw [v73_apply]
  exact rms_real (fun _ => hcx _) (fun _ => hwk _) d

include hx hwq hwk hrpb in
theorem scoreR_real (b : Fin 16) (h : Fin 8) (r : Fin 32) (a : Fin 4) (w : Fin 16) (n : Fin 256) :
    scoreR x wq wk rpb b h r a w n = ⊥ ∨ IsReal (scoreR x wq wk rpb b h r a w n) := by
  unfold scoreR
  rw [v175_apply, valid]
  split
  · exact Or.inr ((IsReal.sum fun _ => (v23_real x wq hx hwq _ _ _ _).mul (v36_real x wk hx hwk _ _ _ _)).add (hrpb _))
  · exact Or.inl rfl

include hx hcx hwq hwk in
theorem scoreC_real (b : Fin 16) (h : Fin 8) (r : Fin 32) (a : Fin 4) (w : Fin 16) (n : Fin 256) :
    IsReal (scoreC x cx wq wk b h r a w n) := by
  unfold scoreC
  rw [v176_apply]
  exact IsReal.sum fun _ => (v23_real x wq hx hwq _ _ _ _).mul (v73_real cx wk hcx hwk _ _ _ _)

variable (b : Fin 16) (x0 x1 x2 : Vec Ideal Cert.NattenIdeal.S1x2048x512 .bf16) (x3 x4 : Vec Ideal Cert.NattenIdeal.S1x256x512 .bf16)
  (x5 x6 : Vec Ideal Cert.NattenIdeal.S1x512 .f32) (x7 : Vec Ideal Cert.NattenIdeal.S8x4x128x512 .f32)
  (H : Reads x cx wq wk rpb b x0 x1 x2 x3 x4 x5 x6 x7)

/-- The head that lanes `hd` of pair `j` hold. -/
abbrev head (j : Fin 4) (hd : Fin 2) : Fin 8 := ⟨2 * j.val + hd.val, by omega⟩

include hx H in
theorem query (r : Fin 32) (a : Fin 4) (w : Fin 16) (j : Fin 4) (hd : Fin 2) (d : Fin 64) :
    qAt x0 x5 r ⟨16 * a.val + w.val, by omega⟩ (col j (lane hd d)) = val_main_v23 (F := Ideal) x wq (ix4 b (qpos r a w) (head j hd) d) := by
  unfold qAt
  rw [headAt_rms _ (fun c => by rw [H.h0]; exact hx _), v23_apply]
  simp only [H.h0, H.h5]
  refine congrArg (· * _) (congr (congrArg₂ rms (funext fun d => congrArg x ?_) (funext fun d => congrArg wq ?_)) rfl)
  · exact congrArg (ix3 b (qpos r a w)) (Fin.ext (by show 128 * j.val + (64 * hd.val + d.val) = (2 * j.val + hd.val) * 64 + d.val; omega))
  · exact congrArg (ix2 0) (Fin.ext (by show (128 * j.val + (64 * hd.val + d.val)) % 64 = d.val; omega))

include hx H in
theorem key (n : Fin 2048) (j : Fin 4) (hd : Fin 2) (d : Fin 64) :
    headAt (fun c => x1 (ix3 0 n c)) (fun c => x6 (ix2 0 c)) (col j (lane hd d)) = val_main_v36 (F := Ideal) x wk (ix4 b n (head j hd) d) := by
  rw [headAt_rms _ (fun c => by rw [H.h1]; exact hx _), v36_apply]
  simp only [H.h1, H.h6]
  refine congr (congrArg₂ rms (funext fun d => congrArg x ?_) (funext fun d => congrArg wk ?_)) rfl
  · exact congrArg (ix3 b n) (Fin.ext (by show 512 + (128 * j.val + (64 * hd.val + d.val)) = 512 + ((2 * j.val + hd.val) * 64 + d.val); omega))
  · exact congrArg (ix2 0) (Fin.ext (by show (128 * j.val + (64 * hd.val + d.val)) % 64 = d.val; omega))

include hcx H in
theorem ctxKey (n : Fin 256) (j : Fin 4) (hd : Fin 2) (d : Fin 64) :
    headAt (fun c => x3 (ix3 0 n c)) (fun c => x6 (ix2 0 c)) (col j (lane hd d)) = val_main_v73 (F := Ideal) cx wk (ix4 b n (head j hd) d) := by
  rw [headAt_rms _ (fun c => by rw [H.h3]; exact hcx _), v73_apply]
  simp only [H.h3, H.h6]
  refine congr (congrArg₂ rms (funext fun d => congrArg cx ?_) (funext fun d => congrArg wk ?_)) rfl
  · exact congrArg (ix3 b n) (Fin.ext (by show 512 + (128 * j.val + (64 * hd.val + d.val)) = 512 + ((2 * j.val + hd.val) * 64 + d.val); omega))
  · exact congrArg (ix2 0) (Fin.ext (by show (128 * j.val + (64 * hd.val + d.val)) % 64 = d.val; omega))

include hx hcx hwq hwk hrpb H in
/-- The kernel's output of a head at a query is the reference's. -/
theorem head_eq (r : Fin 32) (a : Fin 4) (w : Fin 16) (j : Fin 4) (hd : Fin 2) (d : Fin 64) :
    headOut x0 x1 x2 x3 x4 x5 x6 x7 r ⟨16 * a.val + w.val, by omega⟩ j hd d
      = val_main_v199 (F := Ideal) x cx wq wk rpb (ix3 b (qpos r a w) ⟨(head j hd).val * 64 + d.val, by omega⟩) := by
  have hval : (⟨1024 + (col j (lane hd d)).val, by omega⟩ : Fin 1536) = ⟨1024 + ((head j hd).val * 64 + d.val), by omega⟩ :=
    Fin.ext (by show 1024 + (128 * j.val + (64 * hd.val + d.val)) = 1024 + ((2 * j.val + hd.val) * 64 + d.val); omega)
  have hcol : ∀ n : Fin 512, n = ⟨64 * (⟨n.val / 64, by omega⟩ : Fin 8).val + (⟨n.val % 64, by omega⟩ : Fin 64).val, by show 64 * (n.val / 64) + n.val % 64 < 512; omega⟩ := fun n =>
    Fin.ext (by show n.val = 64 * (n.val / 64) + n.val % 64; omega)
  rw [ref_apply x cx wq wk rpb b (head j hd) r a w d _ _ rfl rfl]
  unfold headOut
  simp only [query (hx := hx) (H := H), key (hx := hx) (H := H), ctxKey (hcx := hcx) (H := H), H.h2, H.h4, hval]
  have hc : (fun n : Fin 256 => ∑ e : Fin 64, val_main_v23 (F := Ideal) x wq (ix4 b (qpos r a w) (head j hd) e) * val_main_v73 (F := Ideal) cx wk (ix4 b n (head j hd) e))
      = scoreC x cx wq wk b (head j hd) r a w := funext fun n => (v176_apply x cx wq wk b (head j hd) r a w n).symm
  rw [hc]
  refine (attnRow_eq (sR := scoreR x wq wk rpb b (head j hd) r a w) (sC := scoreC x cx wq wk b (head j hd) r a w)
    (place a) (place_inj a) (fun n => ?_) (fun n hn => ?_) (fun n => ?_) (fun n => ?_) (fun n => ?_) (fun n => ?_)).trans ?_
  · have hb := H.h7 (case r) j hd ⟨16 * a.val + w.val, by omega⟩ ⟨n.val / 32, by omega⟩ ⟨blkStart a + n.val % 32, by simp only [blkStart]; omega⟩
    rw [win_place]
    refine (congrArg (_ + ·) hb).trans ?_
    unfold scoreR
    rw [v175_apply, valid]
    by_cases hw : winStart (16 * a.val + w.val) ≤ blkStart a + n.val % 32 ∧ blkStart a + n.val % 32 < winStart (16 * a.val + w.val) + 16
    · rw [if_pos hw, if_pos hw]
      refine congrArg (_ + ·) (congrArg rpb ?_)
      refine congrArg (fun q => ix4 0 (head j hd) q (biasCol a w ⟨n.val % 32, by omega⟩)) (Fin.ext ?_)
      simp only [case, biasRow, rowStart, rs]
      omega
    · rw [if_neg hw, if_neg hw]
      exact EReal.add_bot _
  · have hb := H.h7 (case r) j hd ⟨16 * a.val + w.val, by omega⟩ ⟨n.val / 64, by omega⟩ ⟨n.val % 64, by omega⟩
    rw [if_neg (fun hw => ?_)] at hb
    · rw [hcol n]
      exact (congrArg (_ + ·) hb).trans (EReal.add_bot _)
    · obtain ⟨n', hn'⟩ := eq_place a n (by simp only [blkStart] at *; omega)
      exact hn n' hn'
  · exact scoreR_real x wq wk rpb hx hwq hwk hrpb b (head j hd) r a w n
  · exact scoreC_real x cx wq wk hx hcx hwq hwk b (head j hd) r a w n
  · exact hx _
  · exact hcx _
  · simp only [win_place]

end Heads

end Cert.NattenEq
-- ==== Proof.NattenValue.lean ====
/-
  The array the attention kernel leaves: each of the 16 grid points writes its batch's block, and each element is the
  reference's.
-/
module

public import proofs.«01_k».proof.Proof.NattenOut
public import proofs.«01_k».proof.Proof.NattenTab
public import proofs.«01_k».proof.Proof.NattenEq
public import proofs.«01_k».proof.Pre_na_finite
public import Idealize.ShloMosaic.Lib.ReduceAll
public import Idealize.ShloMosaic.Lib.Pipeline.ValueKit

@[expose] public section

set_option maxRecDepth 16384

noncomputable section

namespace Cert.NattenValue

open Cert.NattenIdeal Cert.NattenIdeal.Gen Cert.NattenForms Cert.NattenKeys Cert.NattenPairs Cert.NattenRun Cert.NattenHost
open Idealize.ShloMosaic Idealize.ShloMosaic.TcCoe
open Idealize.SL.Sem
open Idealize.ShloMosaic.Pipeline (Dat)

/-! ## The arguments are reals -/

/-- A float whose absolute value is below +∞ is a real. -/
theorem real_of_abs_lt {x : EReal} (h : max x (-x) < ⊤) : IsReal x := by
  induction x using EReal.rec with
  | bot => simp at h
  | coe r => exact ⟨r, rfl⟩
  | top => simp at h

section Finite

/-- An array whose elements' absolute values are all found below +∞ holds reals. -/
theorem all_real {s u v : Shape} {φ : FTy} {axes : List (Fin s.rank)} [Subsingleton u.Idx] (x : FVec Ideal s φ)
    (hb : Cert.Pre_na_finite.S_.BroadcastsInDim s (![] : Fin 0 → Fin s.rank)) (y : FVec Ideal Cert.Pre_na_finite.S_ φ) (hy : ∀ i, y i = (⊤ : EReal))
    (init : IVec v 1) (hr : s.ReducesTo axes u) (hv : 0 < v.numel) (j : u.Idx)
    (h : Host.reduce IntOp.andi (cmpf .olt (Host.absf x) (broadcastInDim s ![] hb y)) init hr hv j = 1#1) (i : s.Idx) : IsReal (x i) := by
  have e : Ideal.cmp .olt (max (x i : EReal) (-(x i))) (broadcastInDim s ![] hb y i) = 1#1 := Host.reduce_andi_all _ init hr hv j h i
  have ht : broadcastInDim s ![] hb y i = (⊤ : EReal) := hy _
  rw [ht] at e
  refine real_of_abs_lt ?_
  by_contra hn
  simp [Ideal.cmp, hn] at e

variable [Cert.Pre_na_finite.Facts] {x : FVec Ideal S16x2048x1536 .bf16} {cx : FVec Ideal S16x256x1536 .bf16}
  {wq wk : FVec Ideal S1x64 .f32} {rpb : FVec Ideal S1x8x15x31 .f32}

theorem ofBits_top : Ideal.ofBits .f32 0x7F800000#32 = ⊤ := by
  simp [Ideal.ofBits, Ideal.ieee]

/-- The precondition says that every element of the five arguments is a real. -/
theorem reals (h : Cert.Pre_na_finite.fn (F := Ideal) x cx wq wk rpb = fun _ => 1#1) :
    ((∀ i, IsReal (x i)) ∧ (∀ i, IsReal (cx i))) ∧ (∀ i, IsReal (wq i)) ∧ (∀ i, IsReal (wk i)) ∧ (∀ i, IsReal (rpb i)) := by
  have h := congrFun h ix0
  dsimp only [Cert.Pre_na_finite.fn, Cert.Pre_na_finite.fn_part1] at h
  obtain ⟨h, a4⟩ := IntOp.andi_eq_one.1 h
  obtain ⟨h, a3⟩ := IntOp.andi_eq_one.1 h
  obtain ⟨h, a2⟩ := IntOp.andi_eq_one.1 h
  obtain ⟨a0, a1⟩ := IntOp.andi_eq_one.1 h
  exact ⟨⟨all_real _ _ _ (fun _ => ofBits_top) _ _ _ _ a0, all_real _ _ _ (fun _ => ofBits_top) _ _ _ _ a1⟩, all_real _ _ _ (fun _ => ofBits_top) _ _ _ _ a2,
    all_real _ _ _ (fun _ => ofBits_top) _ _ _ _ a3, all_real _ _ _ (fun _ => ofBits_top) _ _ _ _ a4⟩

end Finite

variable (m : (ℓ : Loc nD τ sig) → Buf (Elt Ideal) ℓ)

/-- The windows' block indices at every grid point: the point's batch; of the first argument its three thirds. -/
theorem idx : ∀ t : Fin cfg0.N, win0_0.index t = ![t.val, 0, 0] ∧ win0_1.index t = ![t.val, 0, 1] ∧ win0_2.index t = ![t.val, 0, 2]
    ∧ win0_3.index t = ![t.val, 0, 1] ∧ win0_4.index t = ![t.val, 0, 2] ∧ win0_5.index t = ![0, 0] ∧ win0_6.index t = ![0, 0]
    ∧ win0_7.index t = ![0, 0, 0, 0] ∧ win0_8.index t = ![t.val, 0, 0] :=
  (by decide +kernel : ∀ t : Fin grid0.N, _)

/-- The batch of a grid point. -/
abbrev bat (t : Fin cfg0.N) : Fin 16 := ⟨t.val, t.isLt⟩

/-! Each input block read at coordinates: the argument array at the block's placement. -/

theorem h0 (c : Dev nD) (t : Fin cfg0.N) : ∀ (r : Fin 2048) (j : Fin 512), iblk m c 0 t (ix3 0 r j)
      = m ((c : Thread nD τ).loc main_arg0) (ix3 (bat t) r ⟨j.val, by omega⟩) := by
  intros; blk_ext! [iblk, V, idx t]

theorem h1 (c : Dev nD) (t : Fin cfg0.N) : ∀ (r : Fin 2048) (j : Fin 512), iblk m c 1 t (ix3 0 r j)
      = m ((c : Thread nD τ).loc main_arg0) (ix3 (bat t) r ⟨512 + j.val, by omega⟩) := by
  intros; blk_ext! [iblk, V, idx t]

theorem h2 (c : Dev nD) (t : Fin cfg0.N) : ∀ (r : Fin 2048) (j : Fin 512), iblk m c 2 t (ix3 0 r j)
      = m ((c : Thread nD τ).loc main_arg0) (ix3 (bat t) r ⟨1024 + j.val, by omega⟩) := by
  intros; blk_ext! [iblk, V, idx t]

theorem h3 (c : Dev nD) (t : Fin cfg0.N) : ∀ (r : Fin 256) (j : Fin 512), iblk m c 3 t (ix3 0 r j)
      = m ((c : Thread nD τ).loc main_arg1) (ix3 (bat t) r ⟨512 + j.val, by omega⟩) := by
  intros; blk_ext! [iblk, V, idx t]

theorem h4 (c : Dev nD) (t : Fin cfg0.N) : ∀ (r : Fin 256) (j : Fin 512), iblk m c 4 t (ix3 0 r j)
      = m ((c : Thread nD τ).loc main_arg1) (ix3 (bat t) r ⟨1024 + j.val, by omega⟩) := by
  intros; blk_ext! [iblk, V, idx t]

theorem h5 (c : Dev nD) (t : Fin cfg0.N) : ∀ j : Fin 512, iblk m c 5 t (ix2 0 j)
      = m ((c : Thread nD τ).loc main_arg2) (ix2 0 ⟨j.val % 64, by omega⟩) := by
  intro j
  have h : iblk m c 5 t (ix2 0 j) = V m c main_v91 (ix2 0 j) := by blk_ext! [iblk, idx t]
  rw [h, V_v91]
  exact heads_apply _ j

theorem h6 (c : Dev nD) (t : Fin cfg0.N) : ∀ j : Fin 512, iblk m c 6 t (ix2 0 j)
      = m ((c : Thread nD τ).loc main_arg3) (ix2 0 ⟨j.val % 64, by omega⟩) := by
  intro j
  have h : iblk m c 6 t (ix2 0 j) = V m c main_v96 (ix2 0 j) := by blk_ext! [iblk, idx t]
  rw [h, V_v96]
  exact heads_apply _ j

theorem h7 (c : Dev nD) (t : Fin cfg0.N) : ∀ (k : Fin 8) (j : Fin 4) (l : Fin 128) (q : Fin 512), iblk m c 7 t (ix4 k j l q)
      = cases (m ((c : Thread nD τ).loc main_arg4)) (ix4 k j l q) := by
  intro k j l q
  have h : iblk m c 7 t (ix4 k j l q) = V m c main_v86 (ix4 k j l q) := by blk_ext! [iblk, idx t]
  rw [h, V_v86]

/-- The array the kernel leaves is the reference's, the arguments being reals. -/
theorem final (c : Dev nD) (r0 : ∀ i, IsReal (m ((c : Thread nD τ).loc main_arg0) i)) (r1 : ∀ i, IsReal (m ((c : Thread nD τ).loc main_arg1) i))
    (r2 : ∀ i, IsReal (m ((c : Thread nD τ).loc main_arg2) i)) (r3 : ∀ i, IsReal (m ((c : Thread nD τ).loc main_arg3) i))
    (r4 : ∀ i, IsReal (m ((c : Thread nD τ).loc main_arg4) i)) : (dats m 0 c).arrAt 8 (cfgs 0).N
    = Cert.RefNattenIdeal.Read.val_main_v199 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  obtain ⟨y0, n, q, rfl⟩ : ∃ (y0 : Fin 1) (n : Fin 2048) (q : Fin 512), y = ix3 y0 n q := ⟨y 0, y 1, y 2, eq_ix3 y⟩
  obtain rfl : y0 = 0 := Subsingleton.elim _ _
  have he : ((View.whole main_v97).slice (win0_8.rect t)).emb (ix3 0 n q) = ix3 (bat t) n q := by
    blk_ext [idx t]
  rw [he]
  unfold outsAt0
  refine (NattenOut.outBlock_apply (n := n) (cc := q) ..).trans ?_
  obtain ⟨r, a, w, rfl⟩ : ∃ (r : Fin 32) (a : Fin 4) (w : Fin 16), n = Cert.NattenRef.qpos r a w :=
    ⟨⟨n.val / 64, by omega⟩, ⟨n.val % 64 / 16, by omega⟩, ⟨n.val % 16, by omega⟩, Fin.ext (by show n.val = 64 * (n.val / 64) + (16 * (n.val % 64 / 16) + n.val % 16); omega)⟩
  obtain ⟨j, hd, d, rfl⟩ : ∃ (j : Fin 4) (hd : Fin 2) (d : Fin 64), q = col j (lane hd d) :=
    ⟨⟨q.val / 128, by omega⟩, ⟨q.val % 128 / 64, by omega⟩, ⟨q.val % 64, by omega⟩,
      Fin.ext (by show q.val = 128 * (q.val / 128) + (64 * (q.val % 128 / 64) + q.val % 64); omega)⟩
  refine (outAt_head _ _ _ _ _ _ _ _ r ⟨16 * a.val + w.val, by omega⟩ j hd d).trans ?_
  refine (NattenEq.head_eq _ _ _ _ _ r0 r1 r2 r3 r4 (bat t) _ _ _ _ _ _ _ _ ⟨h0 m c t, h1 m c t, h2 m c t, h3 m c t, h4 m c t,
    h5 m c t, h6 m c t, fun k j hd w i n => (h7 m c t k j _ _).trans (cases_apply _ k j hd w i n)⟩ r a w j hd d).trans ?_
  exact congrArg (fun q => Cert.RefNattenIdeal.Read.val_main_v199 (F := Ideal) _ _ _ _ _ (ix3 (bat t) (Cert.NattenRef.qpos r a w) q))
    (Fin.ext (by show (2 * j.val + hd.val) * 64 + d.val = 128 * j.val + (64 * hd.val + d.val); omega))

end Cert.NattenValue

end
-- ==== Proof.lean ====
/-
  The claims about the layer's calls: every run of each program ends with its arguments and counters as
  they should be, the idealized programs are the programs, and each idealized kernel leaves what its
  reference leaves.
-/
module

public import proofs.«01_k».proof.Defs
public import proofs.«01_k».proof.Proof.Gen.Natten
public import proofs.«01_k».proof.Proof.Gen.Natten.Skeleton
public import proofs.«01_k».proof.Proof.Gen.Natten.Loops
public import proofs.«01_k».proof.Proof.Gen.Natten.Launch
public import proofs.«01_k».proof.Proof.Gen.Natten.Points
public import proofs.«01_k».proof.Proof.Gen.NattenIdeal
public import proofs.«01_k».proof.Proof.Gen.NattenIdeal.Skeleton
public import proofs.«01_k».proof.Proof.Gen.NattenIdeal.Loops
public import proofs.«01_k».proof.Proof.Gen.NattenIdeal.Launch
public import proofs.«01_k».proof.Proof.Gen.NattenIdeal.Points
public import proofs.«01_k».proof.Proof.Gen.RefNattenIdeal
public import proofs.«01_k».proof.Proof.Gen.RefNattenIdeal.Run
public import proofs.«01_k».proof.Proof.Gen.RefNattenIdeal.Read
public import proofs.«01_k».proof.Proof.Gen.OutFfn
public import proofs.«01_k».proof.Proof.Gen.OutFfn.Skeleton
public import proofs.«01_k».proof.Proof.Gen.OutFfn.Launch
public import proofs.«01_k».proof.Proof.Gen.OutFfn.Points
public import proofs.«01_k».proof.Proof.Gen.OutFfn.Frame
public import proofs.«01_k».proof.Proof.Gen.OutFfnIdeal
public import proofs.«01_k».proof.Proof.Gen.OutFfnIdeal.Skeleton
public import proofs.«01_k».proof.Proof.Gen.OutFfnIdeal.Launch
public import proofs.«01_k».proof.Proof.Gen.OutFfnIdeal.Points
public import proofs.«01_k».proof.Proof.Gen.OutFfnIdeal.Frame
public import proofs.«01_k».proof.Proof.Gen.RefOutFfnIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.RefInProjIdeal
public import proofs.«01_k».proof.Proof.Gen.OutFfnIdeal.Value
public import proofs.«01_k».proof.Proof.Gen.InProjIdeal.Value
public import proofs.«01_k».proof.Proof.Gen.RefOutFfnIdeal.Run
public import proofs.«01_k».proof.Proof.Gen.RefOutFfnIdeal.Read
public import proofs.«01_k».proof.Proof.Gen.RefInProjIdeal.Run
public import proofs.«01_k».proof.Proof.Gen.RefInProjIdeal.Read
public import Idealize.ShloMosaic.Adequacy
public import Idealize.ShloMosaic.Init
public import proofs.«01_k».proof.Proof.OutFfnValue
public import proofs.«01_k».proof.Proof.InProjValue
public import proofs.«01_k».proof.Proof.NattenBitsFrame
public import proofs.«01_k».proof.Proof.NattenValue

@[expose] public section

set_option maxRecDepth 16384

noncomputable section

namespace Cert.Proof

open Idealize.ShloMosaic Idealize.SL.Sem

/-- The output projection and feed-forward kernel leaves the reference's array. -/
theorem outFfn : Cert.algebraic_OutFfnIdeal_RefOutFfnIdeal := by
  pair_intro
  · run_from Cert.OutFfnIdeal.Gen.run_main m g
  · run_from Cert.RefOutFfnIdeal.Value.run m' g'
    refine (Cert.RefOutFfnIdeal.Read.val_main_v45_eq _ _).trans ?_
    obtain ⟨e0, e1, e2, e3, e4, e5, e6, e7⟩ := hagree c
    rw [e0, e1, e2, e3, e4, e5, e6, e7]
    exact (Cert.OutFfnIdeal.RefValue.final m c).symm

/-- The input projection kernel leaves the reference's four arrays. -/
theorem inProj : Cert.algebraic_InProjIdeal_RefInProjIdeal := by
  pair_intro
  · run_from Cert.InProjIdeal.Gen.run_main m g
    all_goals first
      | exact Cert.InProjIdeal.Gen.V_main_arg0 m c
      | exact Cert.InProjIdeal.Gen.V_main_arg1 m c
      | exact Cert.InProjIdeal.Gen.V_main_arg2 m c
      | exact Cert.InProjIdeal.Gen.V_main_arg3 m c
  · run_from Cert.RefInProjIdeal.Value.run m' g'
    · exact (Cert.RefInProjIdeal.Read.val_main_v34_eq _ _ _ _).trans (Cert.InProjIdeal.RefValue.final4 m c).symm
    · exact (Cert.RefInProjIdeal.Read.val_main_v35_eq _ _ _ _).trans (Cert.InProjIdeal.RefValue.final5 m c).symm
    · exact (Cert.RefInProjIdeal.Read.val_main_v36_eq _ _ _ _).trans (Cert.InProjIdeal.RefValue.final6 m c).symm
    · exact (Cert.RefInProjIdeal.Read.val_main_v33_eq _ _ _ _).trans (Cert.InProjIdeal.RefValue.final7 m c).symm

/-- The facts the precondition states of its shapes. -/
theorem finite_facts : Cert.Pre_na_finite.Facts where
  bitsLt_bf16_f32 := by decide
  bcast_S_S16x2048x1536 := by decide
  reducesTo_S16x2048x1536_S_d0_1_2 := by decide
  h_S_ := by decide
  bcast_S_S16x256x1536 := by decide
  reducesTo_S16x256x1536_S_d0_1_2 := by decide
  bcast_S_S1x64 := by decide
  reducesTo_S1x64_S_d0_1 := by decide
  bcast_S_S1x8x15x31 := by decide
  reducesTo_S1x8x15x31_S_d0_1_2_3 := by decide

set_option maxHeartbeats 4000000 in
/-- The attention kernel leaves the reference's array when its arguments are finite. -/
theorem natten [Cert.Pre_na_finite.Facts] : Cert.algebraic_NattenIdeal_RefNattenIdeal := by
  pair_intro
  · run_from Cert.NattenRun.run_main m g
    all_goals first
      | exact Cert.NattenIdeal.Gen.V_main_arg0 m c
      | exact Cert.NattenIdeal.Gen.V_main_arg1 m c
      | exact Cert.NattenIdeal.Gen.V_main_arg2 m c
      | exact Cert.NattenIdeal.Gen.V_main_arg3 m c
      | exact Cert.NattenIdeal.Gen.V_main_arg4 m c
  · run_from Cert.RefNattenIdeal.Value.run m' g'
    obtain ⟨⟨r0, r1⟩, r2, r3, r4⟩ := Cert.NattenValue.reals (hpre c)
    refine (Cert.RefNattenIdeal.Read.val_main_v199_eq _).trans ?_
    obtain ⟨e0, e1, e2, e3, e4⟩ := hagree c
    refine Eq.trans ?_ (Cert.NattenValue.final m c r0 r1 r2 r3 r4).symm
    exact congr (congr (congr (congrArg₂ (Cert.RefNattenIdeal.Read.val_main_v199 (F := Ideal)) e0 e1) e2) e3) e4

/-- The attention reference ends with its arguments unchanged; it has no counters. -/
theorem refNatten_frame [Cert.Pre_na_finite.Facts] : Cert.quiescent_RefNattenIdeal := fun m ρ _ =>
  (θ_run Cert.RefNattenIdeal.defs _ _).mono
    (fun r h => ⟨fun c => (h c).2, Idealize.ShloMosaic.sem_eq_zero_of_no_sems (by decide) r.2⟩)
    (Cert.RefNattenIdeal.Value.run (F := Ideal) m ρ)

/-- The output reference ends with its arguments unchanged; it has no counters. -/
theorem refOutFfn_frame : Cert.quiescent_RefOutFfnIdeal := fun m ρ _ =>
  (θ_run Cert.RefOutFfnIdeal.defs _ _).mono
    (fun r h => ⟨fun c => (h c).2, Idealize.ShloMosaic.sem_eq_zero_of_no_sems (by decide) r.2⟩)
    (Cert.RefOutFfnIdeal.Value.run (F := Ideal) m ρ)

/-- The input reference ends with its arguments unchanged; it has no counters. -/
theorem refInProj_frame : Cert.quiescent_RefInProjIdeal := fun m ρ _ =>
  (θ_run Cert.RefInProjIdeal.defs _ _).mono
    (fun r h => ⟨fun c => (h c).2.2.2.2, Idealize.ShloMosaic.sem_eq_zero_of_no_sems (by decide) r.2⟩)
    (Cert.RefInProjIdeal.Value.run (F := Ideal) m ρ)

theorem claim : Cert.Claim :=
  ⟨Cert.Natten.Gen.facts, Cert.NattenIdeal.Gen.facts, Cert.RefNattenIdeal.Gen.facts,
    Cert.OutFfn.Gen.facts, Cert.OutFfnIdeal.Gen.facts, Cert.RefOutFfnIdeal.Gen.facts, Cert.InProj.Gen.facts,
    Cert.InProjIdeal.Gen.facts, Cert.RefInProjIdeal.Gen.facts, finite_facts,
    fun m ρ _ => Cert.NattenBits.frame m ρ, fun m ρ _ => Cert.NattenBits.frame m ρ,
    fun m ρ _ => Cert.NattenRun.frame m ρ, fun m ρ _ => Cert.NattenRun.frame m ρ,
    @refNatten_frame finite_facts,
    fun m ρ _ => Cert.OutFfn.Gen.frame m ρ, fun m ρ _ => Cert.OutFfnIdeal.Gen.frame m ρ,
    refOutFfn_frame,
    fun m ρ _ => Cert.InProj.Gen.frame m ρ, fun m ρ _ => Cert.InProjIdeal.Gen.frame m ρ,
    refInProj_frame,
    trivial, @natten finite_facts, trivial, outFfn, trivial, inProj⟩

end Cert.Proof

end
